-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S32x128 : Shape := ⟨2, ![32, 128]⟩
abbrev S32x512x128 : Shape := ⟨3, ![32, 512, 128]⟩
abbrev S32x512 : Shape := ⟨2, ![32, 512]⟩
abbrev S257x64 : Shape := ⟨2, ![257, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S32x128 : S_.BroadcastsInDim S32x128 (![] : Fin 0 → Fin S32x128.rank)
  bcast_S_S32x512x128 : S_.BroadcastsInDim S32x512x128 (![] : Fin 0 → Fin S32x512x128.rank)
  bcast_S_S32x512 : S_.BroadcastsInDim S32x512 (![] : Fin 0 → Fin S32x512.rank)
  bcast_S_S257x64 : S_.BroadcastsInDim S257x64 (![] : Fin 0 → Fin S257x64.rank)
  bcast_S_S64 : S_.BroadcastsInDim S64 (![] : Fin 0 → Fin S64.rank)
  bcast_S_S64x64 : S_.BroadcastsInDim S64x64 (![] : Fin 0 → Fin S64x64.rank)
  bcast_S_S64x1 : S_.BroadcastsInDim S64x1 (![] : Fin 0 → Fin S64x1.rank)
  bcast_S_S1 : S_.BroadcastsInDim S1 (![] : Fin 0 → Fin S1.rank)

variable [Facts]

def fn_part1 {F : FTy → Type} [FloatOps F] (main_arg6 : FVec F S64 .f32) (main_arg7 : FVec F S64x1 .f32) (main_arg8 : FVec F S1 .f32) (main_v2 : IVec S32x128 1) (main_v5 : IVec S32x512x128 1) (main_v8 : IVec S32x512 1) (main_v11 : IVec S257x64 1) (main_v14 : IVec S64 1) (main_v17 : IVec S64x64 1) : IVec S32x128 1 × IVec S32x512x128 1 × IVec S32x512 1 × IVec S257x64 1 × IVec S64 1 × IVec S64x64 1 × IVec S64 1 × IVec S64x1 1 × IVec S1 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64x1 .f32 := Host.absf main_arg7
  let main_cst_6 : FVec F S_ .f32 := constant S_ .f32 0x7F800000#32
  let main_v22 : FVec F S64x1 .f32 := broadcastInDim S64x1 ![] bcast_S_S64x1 main_cst_6
  let main_v23 : IVec S64x1 1 := cmpf .olt main_v21 main_v22
  let main_v24 : FVec F S1 .f32 := Host.absf main_arg8
  let main_cst_7 : FVec F S_ .f32 := constant S_ .f32 0x7F800000#32
  let main_v25 : FVec F S1 .f32 := broadcastInDim S1 ![] bcast_S_S1 main_cst_7
  let main_v26 : IVec S1 1 := cmpf .olt main_v24 main_v25
  (main_v2, main_v5, main_v8, main_v11, main_v14, main_v17, main_v20, main_v23, main_v26)

def fn {F : FTy → Type} [FloatOps F] (main_arg0 : FVec F S32x128 .f32) (main_arg1 : FVec F S32x512x128 .f32) (main_arg2 : FVec F S32x512 .f32) (main_arg3 : FVec F S257x64 .f32) (main_arg4 : FVec F S64 .f32) (main_arg5 : FVec F S64x64 .f32) (main_arg6 : FVec F S64 .f32) (main_arg7 : FVec F S64x1 .f32) (main_arg8 : FVec F S1 .f32) : IVec S32x128 1 × IVec S32x512x128 1 × IVec S32x512 1 × IVec S257x64 1 × IVec S64 1 × IVec S64x64 1 × IVec S64 1 × IVec S64x1 1 × IVec S1 1 :=
  let main_v0 : FVec F S32x128 .f32 := Host.absf main_arg0
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  let main_v3 : FVec F S32x512x128 .f32 := Host.absf main_arg1
  let main_cst_0 : FVec F S_ .f32 := constant S_ .f32 0x7F800000#32
  let main_v4 : FVec F S32x512x128 .f32 := broadcastInDim S32x512x128 ![] bcast_S_S32x512x128 main_cst_0
  let main_v5 : IVec S32x512x128 1 := cmpf .olt main_v3 main_v4
  let main_v6 : FVec F S32x512 .f32 := Host.absf main_arg2
  let main_cst_1 : FVec F S_ .f32 := constant S_ .f32 0x7F800000#32
  let main_v7 : FVec F S32x512 .f32 := broadcastInDim S32x512 ![] bcast_S_S32x512 main_cst_1
  let main_v8 : IVec S32x512 1 := cmpf .olt main_v6 main_v7
  let main_v9 : FVec F S257x64 .f32 := Host.absf main_arg3
  let main_cst_2 : FVec F S_ .f32 := constant S_ .f32 0x7F800000#32
  let main_v10 : FVec F S257x64 .f32 := broadcastInDim S257x64 ![] bcast_S_S257x64 main_cst_2
  let main_v11 : IVec S257x64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64x64 .f32 := Host.absf main_arg5
  let main_cst_4 : FVec F S_ .f32 := constant S_ .f32 0x7F800000#32
  let main_v16 : FVec F S64x64 .f32 := broadcastInDim S64x64 ![] bcast_S_S64x64 main_cst_4
  let main_v17 : IVec S64x64 1 := cmpf .olt main_v15 main_v16
  fn_part1 (F := F) main_arg6 main_arg7 main_arg8 main_v2 main_v5 main_v8 main_v11 main_v14 main_v17
-- ==== Kernel.lean ====
abbrev S32x128 : Shape := ⟨2, ![32, 128]⟩
abbrev S32x512x128 : Shape := ⟨3, ![32, 512, 128]⟩
abbrev S32x512 : Shape := ⟨2, ![32, 512]⟩
abbrev S257x64 : Shape := ⟨2, ![257, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S4x8x128 : Shape := ⟨3, ![4, 8, 128]⟩
abbrev S4x8x512 : Shape := ⟨3, ![4, 8, 512]⟩
abbrev S1x64 : Shape := ⟨2, ![1, 64]⟩
abbrev S1x1 : Shape := ⟨2, ![1, 1]⟩
abbrev S1x8x128 : Shape := ⟨3, ![1, 8, 128]⟩
abbrev S8x512x128 : Shape := ⟨3, ![8, 512, 128]⟩
abbrev S1x8x512 : Shape := ⟨3, ![1, 8, 512]⟩
abbrev S8x128 : Shape := ⟨2, ![8, 128]⟩
abbrev S8x512 : Shape := ⟨2, ![8, 512]⟩
abbrev S512x512 : Shape := ⟨2, ![512, 512]⟩
abbrev S4096x512 : Shape := ⟨2, ![4096, 512]⟩
abbrev S1x512 : Shape := ⟨2, ![1, 512]⟩
abbrev S512x1 : Shape := ⟨2, ![512, 1]⟩
abbrev S4096x1 : Shape := ⟨2, ![4096, 1]⟩
abbrev S1x128 : Shape := ⟨2, ![1, 128]⟩
abbrev S512x128 : Shape := ⟨2, ![512, 128]⟩
abbrev S4096x128 : Shape := ⟨2, ![4096, 128]⟩
abbrev S1x512x128 : Shape := ⟨3, ![1, 512, 128]⟩
abbrev S4096x257 : Shape := ⟨2, ![4096, 257]⟩
abbrev S4096x64 : Shape := ⟨2, ![4096, 64]⟩
abbrev S512x64 : Shape := ⟨2, ![512, 64]⟩
abbrev S8x511 : Shape := ⟨2, ![8, 511]⟩
abbrev S8x1 : Shape := ⟨2, ![8, 1]⟩
abbrev S8x510 : Shape := ⟨2, ![8, 510]⟩
abbrev S8x2 : Shape := ⟨2, ![8, 2]⟩
abbrev S8x508 : Shape := ⟨2, ![8, 508]⟩
abbrev S8x4 : Shape := ⟨2, ![8, 4]⟩
abbrev S8x504 : Shape := ⟨2, ![8, 504]⟩
abbrev S8x8 : Shape := ⟨2, ![8, 8]⟩
abbrev S8x496 : Shape := ⟨2, ![8, 496]⟩
abbrev S8x16 : Shape := ⟨2, ![8, 16]⟩
abbrev S8x480 : Shape := ⟨2, ![8, 480]⟩
abbrev S8x32 : Shape := ⟨2, ![8, 32]⟩
abbrev S8x448 : Shape := ⟨2, ![8, 448]⟩
abbrev S8x64 : Shape := ⟨2, ![8, 64]⟩
abbrev S8x384 : Shape := ⟨2, ![8, 384]⟩
abbrev S8x256 : Shape := ⟨2, ![8, 256]⟩
abbrev S16x512 : Shape := ⟨2, ![16, 512]⟩
abbrev S16x1 : Shape := ⟨2, ![16, 1]⟩
abbrev S16x511 : Shape := ⟨2, ![16, 511]⟩
abbrev S16 : Shape := ⟨1, ![16]⟩
abbrev S1x8x511 : Shape := ⟨3, ![1, 8, 511]⟩
abbrev S1x1x1 : Shape := ⟨3, ![1, 1, 1]⟩
abbrev S4096x511 : Shape := ⟨2, ![4096, 511]⟩
abbrev S4096x510 : Shape := ⟨2, ![4096, 510]⟩
abbrev S4096x2 : Shape := ⟨2, ![4096, 2]⟩
abbrev S4096x508 : Shape := ⟨2, ![4096, 508]⟩
abbrev S4096x4 : Shape := ⟨2, ![4096, 4]⟩
abbrev S4096x504 : Shape := ⟨2, ![4096, 504]⟩
abbrev S4096x8 : Shape := ⟨2, ![4096, 8]⟩
abbrev S4096x496 : Shape := ⟨2, ![4096, 496]⟩
abbrev S4096x16 : Shape := ⟨2, ![4096, 16]⟩
abbrev S4096x480 : Shape := ⟨2, ![4096, 480]⟩
abbrev S4096x32 : Shape := ⟨2, ![4096, 32]⟩
abbrev S4096x448 : Shape := ⟨2, ![4096, 448]⟩
abbrev S4096x384 : Shape := ⟨2, ![4096, 384]⟩
abbrev S4096x256 : Shape := ⟨2, ![4096, 256]⟩
abbrev S512 : Shape := ⟨1, ![512]⟩

abbrev nBuf : Space → Nat
  | .hbm => 19
  | .vmem => 16
  | .smem => 0
  | _ => 0

abbrev bufTy : (tb : Table) → Fin (tcTables nBuf tb) → BufTy
  | .hbm, ⟨0, _⟩ => ⟨S32x128, .f32⟩
  | .hbm, ⟨1, _⟩ => ⟨S32x512x128, .f32⟩
  | .hbm, ⟨2, _⟩ => ⟨S32x512, .f32⟩
  | .hbm, ⟨3, _⟩ => ⟨S257x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S4x8x128, .f32⟩
  | .hbm, ⟨10, _⟩ => ⟨S4x8x512, .f32⟩
  | .hbm, ⟨11, _⟩ => ⟨S1x64, .f32⟩
  | .hbm, ⟨12, _⟩ => ⟨S1x64, .f32⟩
  | .hbm, ⟨13, _⟩ => ⟨S1x1, .f32⟩
  | .hbm, ⟨14, _⟩ => ⟨S1x64, .f32⟩
  | .hbm, ⟨15, _⟩ => ⟨S4x8x512, .f32⟩
  | .hbm, ⟨16, _⟩ => ⟨S4x8x512, .f32⟩
  | .hbm, ⟨17, _⟩ => ⟨S32x512, .f32⟩
  | .hbm, ⟨18, _⟩ => ⟨S32x512, .f32⟩
  | .local _ .vmem, ⟨0, _⟩ => ⟨S1x8x128, .f32⟩
  | .local _ .vmem, ⟨1, _⟩ => ⟨S1x8x128, .f32⟩
  | .local _ .vmem, ⟨2, _⟩ => ⟨S8x512x128, .f32⟩
  | .local _ .vmem, ⟨3, _⟩ => ⟨S8x512x128, .f32⟩
  | .local _ .vmem, ⟨4, _⟩ => ⟨S1x8x512, .f32⟩
  | .local _ .vmem, ⟨5, _⟩ => ⟨S1x8x512, .f32⟩
  | .local _ .vmem, ⟨6, _⟩ => ⟨S257x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S1x64, .f32⟩
  | .local _ .vmem, ⟨11, _⟩ => ⟨S1x1, .f32⟩
  | .local _ .vmem, ⟨12, _⟩ => ⟨S1x8x512, .f32⟩
  | .local _ .vmem, ⟨13, _⟩ => ⟨S1x8x512, .f32⟩
  | .local _ .vmem, ⟨14, _⟩ => ⟨S1x8x512, .f32⟩
  | .local _ .vmem, ⟨15, _⟩ => ⟨S1x8x512, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S257x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S32x128 : Shape := ⟨2, ![32, 128]⟩
abbrev S32x512x128 : Shape := ⟨3, ![32, 512, 128]⟩
abbrev S32x512 : Shape := ⟨2, ![32, 512]⟩
abbrev S257x64 : Shape := ⟨2, ![257, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S32x1x128 : Shape := ⟨3, ![32, 1, 128]⟩
abbrev S32x512x1 : Shape := ⟨3, ![32, 512, 1]⟩
abbrev S32x512x257 : Shape := ⟨3, ![32, 512, 257]⟩
abbrev S32x512x64 : Shape := ⟨3, ![32, 512, 64]⟩
abbrev S1x1x64 : Shape := ⟨3, ![1, 1, 64]⟩
abbrev S_ : Shape := ⟨0, ![]⟩
abbrev S1x1x1 : Shape := ⟨3, ![1, 1, 1]⟩
abbrev S512 : Shape := ⟨1, ![512]⟩
abbrev S1x512 : Shape := ⟨2, ![1, 512]⟩
abbrev S32x1 : Shape := ⟨2, ![32, 1]⟩
abbrev S32x513 : Shape := ⟨2, ![32, 513]⟩
abbrev S512x1 : Shape := ⟨2, ![512, 1]⟩
abbrev S512x512 : Shape := ⟨2, ![512, 512]⟩
abbrev S32x1x512 : Shape := ⟨3, ![32, 1, 512]⟩
abbrev S32x512x512 : Shape := ⟨3, ![32, 512, 512]⟩
abbrev S1x512x512 : Shape := ⟨3, ![1, 512, 512]⟩
abbrev S32 : Shape := ⟨1, ![32]⟩
abbrev S32x512x2 : Shape := ⟨3, ![32, 512, 2]⟩

abbrev nBuf : Space → Nat
  | .hbm => 220
  | .vmem => 0
  | .smem => 0
  | _ => 0

abbrev hbmTy0_0 (i : Nat) : BufTy := match i % 128 with
  | 0 => ⟨S32x128, .f32⟩
  | 1 => ⟨S32x512x128, .f32⟩
  | 2 => ⟨S32x512, .f32⟩
  | 3 => ⟨S257x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S32x1x128, .f32⟩
  | 10 => ⟨S32x512x128, .f32⟩
  | 11 => ⟨S32x512x1, .f32⟩
  | 12 => ⟨S32x512x257, .f32⟩
  | 13 => ⟨S32x512x64, .f32⟩
  | 14 => ⟨S1x1x64, .f32⟩
  | 15 => ⟨S32x512x64, .f32⟩
  | 16 => ⟨S32x512x64, .f32⟩
  | 17 => ⟨S_, .f32⟩
  | 18 => ⟨S32x512x64, .f32⟩
  | 19 => ⟨S32x512x64, .f32⟩
  | 20 => ⟨S32x512x64, .f32⟩
  | 21 => ⟨S1x1x64, .f32⟩
  | 22 => ⟨S32x512x64, .f32⟩
  | 23 => ⟨S32x512x64, .f32⟩
  | 24 => ⟨S_, .f32⟩
  | 25 => ⟨S32x512x64, .f32⟩
  | 26 => ⟨S32x512x64, .f32⟩
  | 27 => ⟨S32x512x1, .f32⟩
  | 28 => ⟨S1x1x1, .f32⟩
  | 29 => ⟨S32x512x1, .f32⟩
  | 30 => ⟨S32x512x1, .f32⟩
  | 31 => ⟨S32x512, .f32⟩
  | 32 => ⟨S512, .f32⟩
  | 33 => ⟨S_, .f32⟩
  | 34 => ⟨S512, .f32⟩
  | 35 => ⟨S512, .f32⟩
  | 36 => ⟨S_, .f32⟩
  | 37 => ⟨S512, .f32⟩
  | 38 => ⟨S512, .f32⟩
  | 39 => ⟨S32x512, .f32⟩
  | 40 => ⟨S32x512, .f32⟩
  | 41 => ⟨S32x512, .f32⟩
  | 42 => ⟨S_, .f32⟩
  | 43 => ⟨S512, .f32⟩
  | 44 => ⟨S512, .f32⟩
  | 45 => ⟨S_, .f32⟩
  | 46 => ⟨S512, .f32⟩
  | 47 => ⟨S512, .f32⟩
  | 48 => ⟨S1x512, .f32⟩
  | 49 => ⟨S32x512, .f32⟩
  | 50 => ⟨S32x512, .f32⟩
  | 51 => ⟨S_, .f32⟩
  | 52 => ⟨S32x1, .f32⟩
  | 53 => ⟨S_, .f32⟩
  | 54 => ⟨S_, .f32⟩
  | 55 => ⟨S32x512, .f32⟩
  | 56 => ⟨S32x513, .f32⟩
  | 57 => ⟨S512, .i32⟩
  | 58 => ⟨S512x1, .i32⟩
  | 59 => ⟨S512, .i32⟩
  | 60 => ⟨S1x512, .i32⟩
  | 61 => ⟨S512x512, .i32⟩
  | 62 => ⟨S512x512, .i32⟩
  | 63 => ⟨S512x512, .i32⟩
  | 64 => ⟨S_, .i32⟩
  | 65 => ⟨S512x512, .i32⟩
  | 66 => ⟨S512x512, .i32⟩
  | 67 => ⟨S512x512, .f32⟩
  | 68 => ⟨S32x512, .f32⟩
  | 69 => ⟨S32x1x512, .f32⟩
  | 70 => ⟨S32x512, .f32⟩
  | 71 => ⟨S32x512x1, .f32⟩
  | 72 => ⟨S32x512x512, .f32⟩
  | 73 => ⟨S32x512x512, .f32⟩
  | 74 => ⟨S32x512x512, .f32⟩
  | 75 => ⟨S_, .f32⟩
  | 76 => ⟨S512x512, .f32⟩
  | 77 => ⟨S512x512, .i1⟩
  | 78 => ⟨S_, .f32⟩
  | 79 => ⟨S_, .f32⟩
  | 80 => ⟨S512x512, .f32⟩
  | 81 => ⟨S512x512, .f32⟩
  | 82 => ⟨S1x512x512, .f32⟩
  | 83 => ⟨S32x512x512, .f32⟩
  | 84 => ⟨S32x512x512, .f32⟩
  | 85 => ⟨S512x512, .i32⟩
  | 86 => ⟨S512x512, .i32⟩
  | 87 => ⟨S512x512, .i1⟩
  | 88 => ⟨S_, .f32⟩
  | 89 => ⟨S_, .f32⟩
  | 90 => ⟨S32x512x512, .i1⟩
  | 91 => ⟨S32x512x512, .f32⟩
  | 92 => ⟨S32x512x512, .f32⟩
  | 93 => ⟨S_, .f32⟩
  | 94 => ⟨S_, .f32⟩
  | 95 => ⟨S32x512x512, .f32⟩
  | 96 => ⟨S512x512, .i32⟩
  | 97 => ⟨S512x512, .i32⟩
  | 98 => ⟨S512x512, .i1⟩
  | 99 => ⟨S_, .f32⟩
  | 100 => ⟨S_, .f32⟩
  | 101 => ⟨S32x512x512, .i1⟩
  | 102 => ⟨S32x512x512, .f32⟩
  | 103 => ⟨S32x512x512, .f32⟩
  | 104 => ⟨S_, .f32⟩
  | 105 => ⟨S32x512, .f32⟩
  | 106 => ⟨S1x512, .f32⟩
  | 107 => ⟨S32x512, .f32⟩
  | 108 => ⟨S32x512, .f32⟩
  | 109 => ⟨S_, .f32⟩
  | 110 => ⟨S32x512, .f32⟩
  | 111 => ⟨S32x512, .f32⟩
  | 112 => ⟨S32x512, .f32⟩
  | 113 => ⟨S32x512, .i32⟩
  | 114 => ⟨S32x512, .f32⟩
  | 115 => ⟨S32x512, .i32⟩
  | 116 => ⟨S_, .i32⟩
  | 117 => ⟨S32x512, .i32⟩
  | 118 => ⟨S32x512, .i1⟩
  | 119 => ⟨S_, .i32⟩
  | 120 => ⟨S32x512, .i32⟩
  | 121 => ⟨S32x512, .i32⟩
  | 122 => ⟨S32x512, .i32⟩
  | 123 => ⟨S32x512x1, .i32⟩
  | 124 => ⟨S1, .i32⟩
  | 125 => ⟨S_, .i32⟩
  | 126 => ⟨S32x512x1, .i32⟩
  | 127 => ⟨S32x512x1, .i1⟩
  | _ => ⟨S32x128, .f32⟩

abbrev hbmTy0_1 (i : Nat) : BufTy := match i % 128 with
  | 0 => ⟨S1x1x1, .i32⟩
  | 1 => ⟨S32x512x1, .i32⟩
  | 2 => ⟨S32x512x1, .i1⟩
  | 3 => ⟨S32x512x1, .i1⟩
  | 4 => ⟨S_, .i1⟩
  | 5 => ⟨S32x512, .i1⟩
  | 6 => ⟨S32x512, .f32⟩
  | 7 => ⟨S_, .f32⟩
  | 8 => ⟨S32x512, .f32⟩
  | 9 => ⟨S32x512, .f32⟩
  | 10 => ⟨S1x512, .f32⟩
  | 11 => ⟨S32x512, .f32⟩
  | 12 => ⟨S32x512, .f32⟩
  | 13 => ⟨S_, .f32⟩
  | 14 => ⟨S32x1, .f32⟩
  | 15 => ⟨S_, .f32⟩
  | 16 => ⟨S_, .f32⟩
  | 17 => ⟨S32x512, .f32⟩
  | 18 => ⟨S32x513, .f32⟩
  | 19 => ⟨S512, .i32⟩
  | 20 => ⟨S512x1, .i32⟩
  | 21 => ⟨S512, .i32⟩
  | 22 => ⟨S1x512, .i32⟩
  | 23 => ⟨S512x512, .i32⟩
  | 24 => ⟨S512x512, .i32⟩
  | 25 => ⟨S512x512, .i32⟩
  | 26 => ⟨S_, .i32⟩
  | 27 => ⟨S512x512, .i32⟩
  | 28 => ⟨S512x512, .i32⟩
  | 29 => ⟨S512x512, .f32⟩
  | 30 => ⟨S32x512, .f32⟩
  | 31 => ⟨S32x1x512, .f32⟩
  | 32 => ⟨S32x512, .f32⟩
  | 33 => ⟨S32x512x1, .f32⟩
  | 34 => ⟨S32x512x512, .f32⟩
  | 35 => ⟨S32x512x512, .f32⟩
  | 36 => ⟨S32x512x512, .f32⟩
  | 37 => ⟨S_, .f32⟩
  | 38 => ⟨S512x512, .f32⟩
  | 39 => ⟨S512x512, .i1⟩
  | 40 => ⟨S_, .f32⟩
  | 41 => ⟨S_, .f32⟩
  | 42 => ⟨S512x512, .f32⟩
  | 43 => ⟨S512x512, .f32⟩
  | 44 => ⟨S1x512x512, .f32⟩
  | 45 => ⟨S32x512x512, .f32⟩
  | 46 => ⟨S32x512x512, .f32⟩
  | 47 => ⟨S512x512, .i32⟩
  | 48 => ⟨S512x512, .i32⟩
  | 49 => ⟨S512x512, .i1⟩
  | 50 => ⟨S_, .f32⟩
  | 51 => ⟨S_, .f32⟩
  | 52 => ⟨S32x512x512, .i1⟩
  | 53 => ⟨S32x512x512, .f32⟩
  | 54 => ⟨S32x512x512, .f32⟩
  | 55 => ⟨S_, .f32⟩
  | 56 => ⟨S_, .f32⟩
  | 57 => ⟨S32x512x512, .f32⟩
  | 58 => ⟨S512x512, .i32⟩
  | 59 => ⟨S512x512, .i32⟩
  | 60 => ⟨S512x512, .i1⟩
  | 61 => ⟨S_, .f32⟩
  | 62 => ⟨S_, .f32⟩
  | 63 => ⟨S32x512x512, .i1⟩
  | 64 => ⟨S32x512x512, .f32⟩
  | 65 => ⟨S32x512x512, .f32⟩
  | 66 => ⟨S_, .f32⟩
  | 67 => ⟨S32x512, .f32⟩
  | 68 => ⟨S32x512, .f32⟩
  | 69 => ⟨S32, .i32⟩
  | 70 => ⟨S32x1, .i32⟩
  | 71 => ⟨S_, .f32⟩
  | 72 => ⟨S32x512, .f32⟩
  | 73 => ⟨S_, .i32⟩
  | 74 => ⟨S32x1, .i32⟩
  | 75 => ⟨S32x1, .i1⟩
  | 76 => ⟨S_, .i32⟩
  | 77 => ⟨S32x1, .i32⟩
  | 78 => ⟨S32x1, .i32⟩
  | 79 => ⟨S32x1, .i32⟩
  | 80 => ⟨S_, .i32⟩
  | 81 => ⟨S32x512, .i32⟩
  | 82 => ⟨S32x512, .i1⟩
  | 83 => ⟨S_, .i32⟩
  | 84 => ⟨S32x512, .i32⟩
  | 85 => ⟨S32x512, .i32⟩
  | 86 => ⟨S32x512, .i32⟩
  | 87 => ⟨S32x512, .i32⟩
  | 88 => ⟨S32x512x1, .i32⟩
  | 89 => ⟨S32x512x1, .i32⟩
  | 90 => ⟨S32x512x2, .i32⟩
  | 91 => ⟨S32x512, .f32⟩
  | _ => ⟨S32x128, .f32⟩

abbrev hbmTy (i : Nat) : BufTy := match i / 128 with
  | 0 => hbmTy0_0 i
  | 1 => hbmTy0_1 i
  | _ => ⟨S32x128, .f32⟩

abbrev bufTy : (tb : Table) → Fin (tcTables nBuf tb) → BufTy
  | .hbm, ⟨i, _⟩ => hbmTy i
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_call1_call0_cst : Ref sig .tc := ⟨.hbm, 53, rfl⟩
abbrev main_call1_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_call2_v0 : Ref sig .tc := ⟨.hbm, 79, rfl⟩
abbrev main_call2_v1 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_8 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v65 : Ref sig .tc := ⟨.hbm, 92, rfl⟩
abbrev main_call4_cst : Ref sig .tc := ⟨.hbm, 93, rfl⟩
abbrev main_call4_v0 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_9 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_v70 : Ref sig .tc := ⟨.hbm, 103, rfl⟩
abbrev main_cst_10 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_call6_v0 : Ref sig .tc := ⟨.hbm, 113, rfl⟩
abbrev main_call6_v1_0 : Ref sig .tc := ⟨.hbm, 114, rfl⟩
abbrev main_v78 : Ref sig .tc := ⟨.hbm, 115, rfl⟩
abbrev main_call7_c : Ref sig .tc := ⟨.hbm, 116, rfl⟩
abbrev main_call7_v0 : Ref sig .tc := ⟨.hbm, 117, rfl⟩
abbrev main_call7_v1 : Ref sig .tc := ⟨.hbm, 118, rfl⟩
abbrev main_call7_c_0 : Ref sig .tc := ⟨.hbm, 119, rfl⟩
abbrev main_call7_v2 : Ref sig .tc := ⟨.hbm, 120, rfl⟩
abbrev main_call7_v3 : Ref sig .tc := ⟨.hbm, 121, rfl⟩
abbrev main_call7_v4 : Ref sig .tc := ⟨.hbm, 122, rfl⟩
abbrev main_call7_v5 : Ref sig .tc := ⟨.hbm, 123, rfl⟩
abbrev main_call7_c_1 : Ref sig .tc := ⟨.hbm, 124, rfl⟩
abbrev main_call7_c_2 : Ref sig .tc := ⟨.hbm, 125, rfl⟩
abbrev main_call7_v6 : Ref sig .tc := ⟨.hbm, 126, rfl⟩
abbrev main_call7_v7 : Ref sig .tc := ⟨.hbm, 127, rfl⟩
abbrev main_call7_v8 : Ref sig .tc := ⟨.hbm, 128, rfl⟩
abbrev main_call7_v9 : Ref sig .tc := ⟨.hbm, 129, rfl⟩
abbrev main_call7_v10 : Ref sig .tc := ⟨.hbm, 130, rfl⟩
abbrev main_call7_v11 : Ref sig .tc := ⟨.hbm, 131, rfl⟩
abbrev main_call7_c_3 : Ref sig .tc := ⟨.hbm, 132, rfl⟩
abbrev main_call7_v12 : Ref sig .tc := ⟨.hbm, 133, rfl⟩
abbrev main_call7_v13 : Ref sig .tc := ⟨.hbm, 134, rfl⟩
abbrev main_call7_cst : Ref sig .tc := ⟨.hbm, 135, rfl⟩
abbrev main_call7_v14 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_12 : Ref sig .tc := ⟨.hbm, 141, rfl⟩
abbrev main_v83 : Ref sig .tc := ⟨.hbm, 142, rfl⟩
abbrev main_call8_call0_cst : Ref sig .tc := ⟨.hbm, 143, rfl⟩
abbrev main_call8_call0_v0 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_c_13 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_cst_14 : Ref sig .tc := ⟨.hbm, 165, rfl⟩
abbrev main_v103 : Ref sig .tc := ⟨.hbm, 166, rfl⟩
abbrev main_v104 : Ref sig .tc := ⟨.hbm, 167, rfl⟩
abbrev main_cst_15 : Ref sig .tc := ⟨.hbm, 168, rfl⟩
abbrev main_call9_v0 : Ref sig .tc := ⟨.hbm, 169, rfl⟩
abbrev main_call9_v1 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_16 : Ref sig .tc := ⟨.hbm, 178, rfl⟩
abbrev main_call10_v0 : Ref sig .tc := ⟨.hbm, 179, rfl⟩
abbrev main_call10_v1 : Ref sig .tc := ⟨.hbm, 180, rfl⟩
abbrev main_call10_v2 : Ref sig .tc := ⟨.hbm, 181, rfl⟩
abbrev main_v112 : Ref sig .tc := ⟨.hbm, 182, rfl⟩
abbrev main_call11_cst : Ref sig .tc := ⟨.hbm, 183, rfl⟩
abbrev main_call11_v0 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_cst_17 : Ref sig .tc := ⟨.hbm, 189, rfl⟩
abbrev main_call12_v0 : Ref sig .tc := ⟨.hbm, 190, rfl⟩
abbrev main_call12_v1 : Ref sig .tc := ⟨.hbm, 191, rfl⟩
abbrev main_call12_v2 : Ref sig .tc := ⟨.hbm, 192, rfl⟩
abbrev main_v117 : Ref sig .tc := ⟨.hbm, 193, rfl⟩
abbrev main_cst_18 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_cst_19 : Ref sig .tc := ⟨.hbm, 199, rfl⟩
abbrev main_v122 : Ref sig .tc := ⟨.hbm, 200, rfl⟩
abbrev main_c_20 : Ref sig .tc := ⟨.hbm, 201, rfl⟩
abbrev main_v123 : Ref sig .tc := ⟨.hbm, 202, rfl⟩
abbrev main_v124 : Ref sig .tc := ⟨.hbm, 203, rfl⟩
abbrev main_c_21 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_c_22 : Ref sig .tc := ⟨.hbm, 208, rfl⟩
abbrev main_v128 : Ref sig .tc := ⟨.hbm, 209, rfl⟩
abbrev main_v129 : Ref sig .tc := ⟨.hbm, 210, rfl⟩
abbrev main_c_23 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩

abbrev nD : Nat := 1
abbrev τ : Topo := Topo.v7x

variable {F : FTy → Type} [FloatOps F]
-- ==== Proof.Model.lean ====
/-
  What one grid step of the kernel computes, as a few small functions built from the program's own operations: the scores
  of eight rows (`refined`), the bitonic sort of the scores with their lane numbers, the reversal of the lanes, the
  running sums in blocks of 128 lanes, the isotonic regression by running maxima and a minimum, and the scatter of the
  ranks by a second bitonic sort.
-/
module

public import proofs.«01_k».proof.KernelIdeal

@[expose] public section

noncomputable section

namespace Cert.SoftSort

open Cert.KernelIdeal Cert.KernelIdeal.Facts₀ Cert.KernelIdeal.Facts
open Idealize.ShloMosaic Idealize.SL.Sem

variable {F : FTy → Type} [FloatOps F]

/-! ## Shape conditions at a parameter -/

theorem slices_row {R a b n : Nat} (h : a + b ≤ n) : (⟨2, ![R, n]⟩ : Shape).Slices ![0, a] ⟨2, ![R, b]⟩ :=
  ⟨rfl, fun i => by fin_cases i <;> simp <;> first | omega | skip⟩

theorem slices_block {R n a b : Nat} (h : a + b ≤ R) : (⟨2, ![R, n]⟩ : Shape).Slices ![a, 0] ⟨2, ![b, n]⟩ :=
  ⟨rfl, fun i => by fin_cases i <;> simp <;> first | omega | skip⟩

theorem concat_row {R a b n : Nat} (h : a + b = n) :
    Shape.Concatenates [⟨2, ![R, a]⟩, ⟨2, ![R, b]⟩] ⟨2, ![R, n]⟩ 1 := by
  refine ⟨by simp, ?_, ?_⟩
  · intro s hs
    simp only [List.mem_cons, List.not_mem_nil, or_false] at hs
    rcases hs with rfl | rfl <;> exact ⟨rfl, fun b hb => by fin_cases b <;> simp_all⟩
  · simpa using h

section
variable [Facts]

/-! ## Lane masks -/

/-- The lane numbers, one row. -/
def lane : IVec S1x512 32 := iota .tc S1x512 32 [1] iota_S1x512_d1_w32

/-- The floor quotient of `l` by the scalar `c`. -/
def floorDiv (l : IVec S1x512 32) (c : BitVec 32) : IVec S1x512 32 :=
  select
    (andi
      (cmpi .ne
        (subi (extui 32 (cmpi .sgt l (broadcast S1x512 0#32)) natLt_1_32)
          (extui 32 (cmpi .slt l (broadcast S1x512 0#32)) natLt_1_32))
        (broadcast S1x512 (Scalar.subi (Scalar.extui (Scalar.cmpi .sgt c 0#32)) (Scalar.extui (Scalar.cmpi .slt c 0#32)))))
      (cmpi .ne (remsi l (broadcast S1x512 c)) (broadcast S1x512 0#32)))
    (subi (divsi l (broadcast S1x512 c)) (broadcast S1x512 1#32))
    (divsi l (broadcast S1x512 c))

/-- The divisor the printed floor remainder divides by. -/
def modulus (c : BitVec 32) : BitVec 32 := Scalar.select (Scalar.cmpi .eq c 0#32) 1#32 c

/-- The floor remainder of `x` by the scalar `c`. -/
def floorMod {s : Shape} (hs : s.Broadcasts s) (x : IVec s 32) (c : BitVec 32) : IVec s 32 :=
  select
    (andi
      (xori (cmpi .slt (remsi x (broadcast s (modulus c))) (broadcast s 0#32))
        (broadcastTo s (broadcast s (Scalar.cmpi .slt (modulus c) 0#32)) hs))
      (cmpi .ne (remsi x (broadcast s (modulus c))) (broadcast s 0#32)))
    (addi (remsi x (broadcast s (modulus c))) (broadcast s (modulus c)))
    (remsi x (broadcast s (modulus c)))

/-- Whether the lane lies in an even block of `c` lanes. -/
def evenBlock (c : BitVec 32) : IVec S1x512 1 :=
  cmpi .eq (floorMod broadcasts_S1x512_S1x512 (floorDiv lane c) 2#32) (broadcast S1x512 0#32)

/-- One row's mask on eight rows. -/
def onRows (m : IVec S1x512 1) : IVec S8x512 1 := broadcastTo S8x512 m broadcasts_S1x512_S8x512

/-- One row's mask on sixteen rows. -/
def onRows16 (m : IVec S1x512 1) : IVec S16x512 1 :=
  broadcastTo S16x512 (shapeCast S1x512 m shapeCasts_S1x512_S1x512) broadcasts_S1x512_S16x512

/-! ## Rotations of the lanes -/

/-- Every row rotated left by `j` lanes. -/
def rollL {α : Type} (R j : Nat) (hj : j ≤ 512) (x : (⟨2, ![R, 512]⟩ : Shape).Idx → α) : (⟨2, ![R, 512]⟩ : Shape).Idx → α :=
  concatenate ⟨2, ![R, 512]⟩ 1
    [⟨⟨2, ![R, 512 - j]⟩, extractStridedSlice ⟨2, ![R, 512 - j]⟩ ![0, j] x (slices_row (by omega))⟩,
      ⟨⟨2, ![R, j]⟩, extractStridedSlice ⟨2, ![R, j]⟩ ![0, 0] x (slices_row (by omega))⟩] (concat_row (by omega))

/-- Every row rotated right by `j` lanes. -/
def rollR {α : Type} (R j : Nat) (hj : j ≤ 512) (x : (⟨2, ![R, 512]⟩ : Shape).Idx → α) : (⟨2, ![R, 512]⟩ : Shape).Idx → α :=
  concatenate ⟨2, ![R, 512]⟩ 1
    [⟨⟨2, ![R, j]⟩, extractStridedSlice ⟨2, ![R, j]⟩ ![0, 512 - j] x (slices_row (by omega))⟩,
      ⟨⟨2, ![R, 512 - j]⟩, extractStridedSlice ⟨2, ![R, 512 - j]⟩ ![0, 0] x (slices_row (by omega))⟩] (concat_row (by omega))

theorem pow_le (s : Fin 9) : 2 ^ s.val ≤ 512 :=
  (Nat.pow_le_pow_right (by decide) (Nat.le_of_lt s.isLt)).trans (by decide)

/-- Every lane's partner at distance `2 ^ s`: the next block's in an even block, the previous block's in an odd one. -/
def partnerOf {α : Type} (s : Fin 9) (x : S8x512.Idx → α) : S8x512.Idx → α :=
  select (onRows (shapeCast S1x512 (evenBlock (BitVec.ofNat 32 (2 ^ s.val))) shapeCasts_S1x512_S1x512))
    (rollL 8 (2 ^ s.val) (pow_le s) x) (rollR 8 (2 ^ s.val) (pow_le s) x)

/-- All lanes set. -/
def ones : IVec S1x512 1 := constantI S1x512 1 1#1

/-- Whether a lane wants the winner of its exchange in stage `s` of merge `l`. -/
def want (l s : Fin 9) : IVec S1x512 1 :=
  xori (xori (evenBlock (BitVec.ofNat 32 (2 ^ s.val))) (evenBlock (BitVec.ofNat 32 (2 ^ (l.val + 1))))) ones

/-- Whether a lane keeps its own entry, `win` and `lose` telling whether it wins or loses against its partner. -/
def keep (l s : Fin 9) (win lose : IVec S8x512 1) : IVec S8x512 1 :=
  ori (andi (onRows (want l s)) win) (andi (onRows (xori (want l s) ones)) lose)

/-- The stages of the sorting network in order: merge `l` with distances `2 ^ l` down to one. -/
def stages : List (Fin 9 × Fin 9) :=
  [(0, 0), (1, 1), (1, 0), (2, 2), (2, 1), (2, 0), (3, 3), (3, 2), (3, 1), (3, 0),
   (4, 4), (4, 3), (4, 2), (4, 1), (4, 0), (5, 5), (5, 4), (5, 3), (5, 2), (5, 1), (5, 0),
   (6, 6), (6, 5), (6, 4), (6, 3), (6, 2), (6, 1), (6, 0),
   (7, 7), (7, 6), (7, 5), (7, 4), (7, 3), (7, 2), (7, 1), (7, 0),
   (8, 8), (8, 7), (8, 6), (8, 5), (8, 4), (8, 3), (8, 2), (8, 1), (8, 0)]

/-! ## The two sorts -/

/-- One stage of the descending sort of scores, carrying lane numbers. -/
def stepDesc (p : FVec F S8x512 .f32 × IVec S8x512 32) (ls : Fin 9 × Fin 9) : FVec F S8x512 .f32 × IVec S8x512 32 :=
  (select (keep ls.1 ls.2 (cmpf .oge p.1 (partnerOf ls.2 p.1)) (cmpf .ole p.1 (partnerOf ls.2 p.1))) p.1 (partnerOf ls.2 p.1),
   select (keep ls.1 ls.2 (cmpf .oge p.1 (partnerOf ls.2 p.1)) (cmpf .ole p.1 (partnerOf ls.2 p.1))) p.2 (partnerOf ls.2 p.2))

/-- The scores sorted in descending order, with the lane each came from. -/
def sortDesc (x : FVec F S8x512 .f32) : FVec F S8x512 .f32 × IVec S8x512 32 :=
  stages.foldl stepDesc
    (x, broadcastTo S8x512 (shapeCast S1x512 lane shapeCasts_S1x512_S1x512) broadcasts_S1x512_S8x512)

/-- One stage of the ascending sort of lane numbers, carrying values. -/
def stepAsc (p : IVec S8x512 32 × FVec F S8x512 .f32) (ls : Fin 9 × Fin 9) : IVec S8x512 32 × FVec F S8x512 .f32 :=
  (select (keep ls.1 ls.2 (cmpi .sle p.1 (partnerOf ls.2 p.1)) (cmpi .sge p.1 (partnerOf ls.2 p.1))) p.1 (partnerOf ls.2 p.1),
   select (keep ls.1 ls.2 (cmpi .sle p.1 (partnerOf ls.2 p.1)) (cmpi .sge p.1 (partnerOf ls.2 p.1))) p.2 (partnerOf ls.2 p.2))

/-- The values of `v` moved to the lanes `k` names, by sorting `k`. -/
def scatterBy (k : IVec S8x512 32) (v : FVec F S8x512 .f32) : FVec F S8x512 .f32 := (stages.foldl stepAsc (k, v)).2

/-- The lanes in reverse order: every pair of neighbouring blocks exchanged, at every block size. -/
def reversed {α : Type} (x : S8x512.Idx → α) : S8x512.Idx → α :=
  ([0, 1, 2, 3, 4, 5, 6, 7, 8] : List (Fin 9)).foldl (fun x s => partnerOf s x) x

/-! ## Running sums -/

/-- A lane's number in its block of 128 lanes. -/
def laneMod : IVec S1x512 32 := floorMod broadcasts_S1x512_S1x512 lane 128#32

/-- The running sums of the first `n + 1` lanes of every block, the other lanes as they were. -/
def scanTo (y : FVec F S16x512 .f32) : Nat → FVec F S16x512 .f32
  | 0 => y
  | n + 1 => select (onRows16 (cmpi .eq laneMod (broadcast S1x512 (BitVec.ofNat 32 (n + 1)))))
      (addf (scanTo y n) (rollR 16 1 (by decide) (scanTo y n))) (scanTo y n)

/-- Zeros. -/
def zeros16 : FVec F S16x512 .f32 := broadcast S16x512 (Scalar.ofBits .f32 0x00000000#32)

/-- The total of block `b`: the sum of the row with every lane but the block's last at zero. -/
def blockTotal (c : FVec F S16x512 .f32) (b : Nat) : FVec F S16x1 .f32 :=
  shapeCast S16x1
    (multiReduction .add [1] S16
      (select (onRows16 (cmpi .eq lane (broadcast S1x512 (BitVec.ofNat 32 (128 * (b + 1) - 1))))) c zeros16)
      0x00000000#32 reduces_S16x512_S16 (.inl rfl) rfl) shapeCasts_S16_S16x1

/-- The totals of the first `b` blocks, and what each lane adds for them. -/
def carries (c : FVec F S16x512 .f32) : Nat → FVec F S16x1 .f32 × FVec F S16x512 .f32
  | 0 => (broadcast S16x1 (Scalar.ofBits .f32 0x00000000#32), zeros16)
  | b + 1 =>
    (addf (carries c b).1 (blockTotal c b),
     select (onRows16 (cmpi .sge lane (broadcast S1x512 (BitVec.ofNat 32 (128 * (b + 1))))))
      (broadcastTo S16x512 (shapeCast S16x1 (addf (carries c b).1 (blockTotal c b)) shapeCasts_S16x1_S16x1)
        broadcasts_S16x1_S16x512) (carries c b).2)

/-- The running sums of sixteen rows. -/
def runningSums (y : FVec F S16x512 .f32) : FVec F S16x512 .f32 := addf (scanTo y 127) (carries (scanTo y 127) 3).2

/-- The running sums before each lane. -/
def before (c : FVec F S8x512 .f32) : FVec F S8x512 .f32 :=
  concatenate S8x512 1
    [⟨S8x1, broadcast S8x1 (Scalar.ofBits .f32 0x00000000#32)⟩,
      ⟨S8x511, extractStridedSlice S8x511 ![0, 0] c slices_S8x512_o0_0_S8x511⟩] concatenates_S8x1_S8x511_S8x512_d1

/-! ## Isotonic regression -/

/-- Eight vectors laid end to end. -/
def cat8 {α : Type} {s t : Shape} (a : Fin t.rank) (f : Fin 8 → (s.Idx → α))
    (h : Shape.Concatenates [s, s, s, s, s, s, s, s] t a) : t.Idx → α :=
  concatenate t a [⟨s, f 0⟩, ⟨s, f 1⟩, ⟨s, f 2⟩, ⟨s, f 3⟩, ⟨s, f 4⟩, ⟨s, f 5⟩, ⟨s, f 6⟩, ⟨s, f 7⟩] h

/-- Row `r` of eight. -/
def rowOf {α : Type} (n : Nat) (x : (⟨2, ![8, n]⟩ : Shape).Idx → α) (r : Fin 8) : (⟨2, ![1, n]⟩ : Shape).Idx → α :=
  extractStridedSlice ⟨2, ![1, n]⟩ ![r.val, 0] x (slices_block (by omega))

/-- Block `r` of eight. -/
def blockOf {α : Type} (n : Nat) (x : (⟨2, ![4096, n]⟩ : Shape).Idx → α) (r : Fin 8) : (⟨2, ![512, n]⟩ : Shape).Idx → α :=
  extractStridedSlice ⟨2, ![512, n]⟩ ![512 * r.val, 0] x (slices_block (by omega))

/-- The unit matrix. -/
def ident : FVec F S512x512 .f32 :=
  sitofp .f32 (extui 32 (cmpi .eq (iota .tc S512x512 32 [0] iota_S512x512_d0_w32) (iota .tc S512x512 32 [1] iota_S512x512_d1_w32)) natLt_1_32)

/-- The eight rows as one column. -/
def asColumn (x : FVec F S8x512 .f32) : FVec F S4096x1 .f32 :=
  cat8 (s := S512x1) (t := S4096x1) 0 (fun r => matmul dot_S512x512_S1x512_S512x1_1_1_0_0_n_n none ident (rowOf 512 x r)
    (constant S512x1 .f32 0x00000000#32)) concatenates_S512x1_S512x1_S512x1_S512x1_S512x1_S512x1_S512x1_S512x1_S4096x1_d0

/-- A row's position in its block of 512 rows. -/
def subOf : IVec S4096x512 32 :=
  floorMod broadcasts_S4096x512_S4096x512 (iota .tc S4096x512 32 [0] iota_S4096x512_d0_w32) 512#32

/-- The lane number on every row. -/
def laneM : IVec S4096x512 32 := iota .tc S4096x512 32 [1] iota_S4096x512_d1_w32

/-- Whether the lane is at least the row's position. -/
def maskM : IVec S4096x512 1 := cmpi .sge laneM subOf

/-- The number of lanes from the row's position to the lane, one where there is none. -/
def lengthM : FVec F S4096x512 .f32 :=
  select maskM (sitofp .f32 (addi (subi laneM subOf) (broadcast S4096x512 1#32)))
    (broadcast S4096x512 (Scalar.ofBits .f32 0x3F800000#32))

/-- The means of the lanes from the row's position to the lane, minus infinity where there is none. -/
def means (c cs : FVec F S8x512 .f32) : FVec F S4096x512 .f32 :=
  select maskM
    (divf
      (subf
        (cat8 (s := S512x512) (t := S4096x512) 0
          (fun r => broadcastTo S512x512 (shapeCast S1x512 (rowOf 512 c r) shapeCasts_S1x512_S1x512) broadcasts_S1x512_S512x512)
          concatenates_S512x512_S512x512_S512x512_S512x512_S512x512_S512x512_S512x512_S512x512_S4096x512_d0)
        (broadcastTo S4096x512 (asColumn cs) broadcasts_S4096x1_S4096x512)) lengthM)
    (broadcast S4096x512 (Scalar.ofBits .f32 0xFF800000#32))

/-- Every lane's larger of itself and the lane `2 ^ s` after it. -/
def maxStep (s : Fin 9) (m : FVec F S4096x512 .f32) : FVec F S4096x512 .f32 :=
  maximumf m (concatenate S4096x512 1
    [⟨⟨2, ![4096, 512 - 2 ^ s.val]⟩, extractStridedSlice ⟨2, ![4096, 512 - 2 ^ s.val]⟩ ![0, 2 ^ s.val] m
        (slices_row (by have := pow_le s; omega))⟩,
      ⟨⟨2, ![4096, 2 ^ s.val]⟩, broadcast ⟨2, ![4096, 2 ^ s.val]⟩ (Scalar.ofBits .f32 0xFF800000#32)⟩]
    (concat_row (by have := pow_le s; omega)))

/-- Every lane's maximum over the lanes from it on. -/
def suffixMax (m : FVec F S4096x512 .f32) : FVec F S4096x512 .f32 :=
  ([0, 1, 2, 3, 4, 5, 6, 7, 8] : List (Fin 9)).foldl (fun m s => maxStep s m) m

/-- The isotonic regression of eight rows, off their running sums. -/
def isotonic (c cs : FVec F S8x512 .f32) : FVec F S8x512 .f32 :=
  cat8 (s := S1x512) (t := S8x512) 0
    (fun r => shapeCast S1x512
      (multiReduction .minimumf [0] S512
        (blockOf 512 (select maskM (suffixMax (means c cs)) (broadcast S4096x512 (Scalar.ofBits .f32 0x7F800000#32))) r)
        0x7F800000#32 reduces_S512x512_S512 (.inl rfl) rfl) shapeCasts_S512_S1x512)
    concatenates_S1x512_S1x512_S1x512_S1x512_S1x512_S1x512_S1x512_S1x512_S8x512_d0

/-! ## The scores -/

/-- The layer input of eight rows of 512 documents: the query, the document and its first score. -/
def features (q : FVec F S1x8x128 .f32) (docs : Fin 8 → FVec F S1x512x128 .f32) (sc : FVec F S1x8x512 .f32) :
    FVec F S4096x257 .f32 :=
  concatenate S4096x257 1
    [⟨S4096x128, cat8 (s := S512x128) (t := S4096x128) 0
        (fun r => broadcastTo S512x128 (shapeCast S1x128 (rowOf 128 (shapeCast S8x128 q shapeCasts_S1x8x128_S8x128) r)
          shapeCasts_S1x128_S1x128) broadcasts_S1x128_S512x128)
        concatenates_S512x128_S512x128_S512x128_S512x128_S512x128_S512x128_S512x128_S512x128_S4096x128_d0⟩,
      ⟨S4096x128, cat8 (s := S512x128) (t := S4096x128) 0
        (fun r => shapeCast S512x128 (docs r) shapeCasts_S1x512x128_S512x128)
        concatenates_S512x128_S512x128_S512x128_S512x128_S512x128_S512x128_S512x128_S512x128_S4096x128_d0⟩,
      ⟨S4096x1, asColumn (shapeCast S8x512 sc shapeCasts_S1x8x512_S8x512)⟩]
    concatenates_S4096x128_S4096x128_S4096x1_S4096x257_d1

/-- One hidden layer's bias and rectifier. -/
def hidden (x : FVec F S4096x64 .f32) (b : FVec F S1x64 .f32) : FVec F S4096x64 .f32 :=
  maximumf (addf x (broadcastTo S4096x64 (shapeCast S1x64 b shapeCasts_S1x64_S1x64) broadcasts_S1x64_S4096x64))
    (broadcast S4096x64 (Scalar.ofBits .f32 0x00000000#32))

/-- The second hidden layer of every document. -/
def layers (f : FVec F S4096x257 .f32) (w1 : FVec F S257x64 .f32) (b1 : FVec F S1x64 .f32) (w2 : FVec F S64x64 .f32)
    (b2 : FVec F S1x64 .f32) : FVec F S4096x64 .f32 :=
  hidden (matmul dot_S4096x64_S64x64_S4096x64_1_0_0_1_n_n none
    (hidden (matmul dot_S4096x257_S257x64_S4096x64_1_0_0_1_n_n none f w1 (constant S4096x64 .f32 0x00000000#32)) b1) w2
    (constant S4096x64 .f32 0x00000000#32)) b2

/-- The refined scores of eight rows. -/
def refined (h : FVec F S4096x64 .f32) (w3 : Fin 8 → FVec F S1x64 .f32) (b3 : FVec F S1x1 .f32) : FVec F S8x512 .f32 :=
  addf
    (cat8 (s := S1x512) (t := S8x512) 0
      (fun r => matmul dot_S1x64_S512x64_S1x512_1_1_0_0_n_n none (shapeCast S1x64 (w3 r) shapeCasts_S1x64_S1x64) (blockOf 64 h r)
        (constant S1x512 .f32 0x00000000#32))
      concatenates_S1x512_S1x512_S1x512_S1x512_S1x512_S1x512_S1x512_S1x512_S8x512_d0)
    (broadcastTo S8x512 (shapeCast S1x1 b3 shapeCasts_S1x1_S1x1) broadcasts_S1x1_S8x512)

/-! ## From the scores to the two results -/

/-- The numbers 512 down to one. -/
def countdown : FVec F S1x512 .f32 := sitofp .f32 (subi (broadcast S1x512 512#32) lane)

/-- The numbers 512 down to one over the regularisation strength. -/
def weights : FVec F S1x512 .f32 := divf countdown (broadcast S1x512 (Scalar.ofBits .f32 0x3DCCCCCD#32))

/-- The regression's argument for the sort. -/
def sortArg (x : FVec F S8x512 .f32) : FVec F S8x512 .f32 :=
  subf (broadcastTo S8x512 weights broadcasts_S1x512_S8x512) (sortDesc x).1

/-- The scores over minus the regularisation strength, in descending order. -/
def rankScores (x : FVec F S8x512 .f32) : FVec F S8x512 .f32 :=
  mulf (reversed (sortDesc x).1) (broadcast S8x512 (Scalar.ofBits .f32 0xC1200000#32))

/-- The regression's argument for the rank. -/
def rankArg (x : FVec F S8x512 .f32) : FVec F S8x512 .f32 :=
  subf (rankScores x) (broadcastTo S8x512 countdown broadcasts_S1x512_S8x512)

/-- The running sums of both arguments. -/
def sums (x : FVec F S8x512 .f32) : FVec F S16x512 .f32 :=
  runningSums (concatenate S16x512 0 [⟨S8x512, sortArg x⟩, ⟨S8x512, rankArg x⟩] concatenates_S8x512_S8x512_S16x512_d0)

/-- The running sums of the sort's argument. -/
def sums1 (x : FVec F S8x512 .f32) : FVec F S8x512 .f32 := extractStridedSlice S8x512 ![0, 0] (sums x) slices_S16x512_o0_0_S8x512
/-- The running sums of the rank's argument. -/
def sums2 (x : FVec F S8x512 .f32) : FVec F S8x512 .f32 := extractStridedSlice S8x512 ![8, 0] (sums x) slices_S16x512_o8_0_S8x512

/-- Whether a lane of the sort's argument exceeds the lane before it less two. -/
def above (y : FVec F S8x512 .f32) : IVec S8x511 1 :=
  cmpf .ogt (extractStridedSlice S8x511 ![0, 1] y slices_S8x512_o0_1_S8x511)
    (subf (extractStridedSlice S8x511 ![0, 0] y slices_S8x512_o0_0_S8x511)
      (broadcast S8x511 (Scalar.ofBits .f32 0x40000000#32)))

/-- Whether any lane of any row does. -/
def violated (x : FVec F S8x512 .f32) : BitVec 1 :=
  Scalar.cmpf .ogt
    (extractAt ![0, 0, 0]
      (shapeCast S1x1x1
        (multiReduction .maximumf [1, 2] S1
          (shapeCast S1x8x511
            (select (above (sortArg x)) (broadcast S8x511 (Scalar.ofBits (F := F) .f32 0x3F800000#32))
              (broadcast S8x511 (Scalar.ofBits .f32 0x00000000#32))) shapeCasts_S8x511_S1x8x511)
          0xFF800000#32 reduces_S1x8x511_S1 (.inl rfl) rfl) shapeCasts_S1_S1x1x1) inpos_S1x1x1_p0_0_0)
    (Scalar.ofBits .f32 0x00000000#32)

/-- A block of eight rows as a staging buffer holds it. -/
def asBlock (x : FVec F S8x512 .f32) : FVec F S1x8x512 .f32 := shapeCast S1x8x512 x shapeCasts_S8x512_S1x8x512

/-- The soft sort where the argument decreases: the differences of its running sums. -/
def sortCheap (x : FVec F S8x512 .f32) : FVec F S1x8x512 .f32 :=
  asBlock (subf (broadcastTo S8x512 weights broadcasts_S1x512_S8x512) (subf (sums1 x) (before (sums1 x))))

/-- The soft sort by the regression. -/
def sortFull (x : FVec F S8x512 .f32) : FVec F S1x8x512 .f32 :=
  asBlock (subf (broadcastTo S8x512 weights broadcasts_S1x512_S8x512) (isotonic (sums1 x) (before (sums1 x))))

/-- The soft ranks. -/
def ranks (x : FVec F S8x512 .f32) : FVec F S1x8x512 .f32 :=
  asBlock (scatterBy (reversed (sortDesc x).2) (subf (rankScores x) (isotonic (sums2 x) (before (sums2 x)))))

end

end Cert.SoftSort

end
-- ==== Proof.Body.lean ====
/-
  The kernel's body as loads followed by its two results: the printed body reads its operands, and from its branches on is
  `tail`, a function of the values read there; at either value of the branch condition the tail is two stores.
-/
module

public import proofs.«01_k».proof.Proof.Model
public import Idealize.ShloMosaic.Lib.Tactic

@[expose] public section

set_option maxRecDepth 65536

noncomputable section

namespace Cert.SoftSort

open Cert.KernelIdeal Cert.KernelIdeal.Facts₀ Cert.KernelIdeal.Facts
open Idealize.ShloMosaic Idealize.SL.Sem

variable {F : FTy → Type} [FloatOps F] [Facts]

/-- The middle group of the printed body from its branches on, over the values read there. -/
def tailInner (i : grid0.Coords) (arg1 : Memref sig .tc .vmem S1x8x128 .f32) (harg1 : arg1.IsWhole) (arg2 : Memref sig .tc .vmem S8x512x128 .f32) (harg2 : arg2.IsWhole) (arg3 : Memref sig .tc .vmem S1x8x512 .f32) (harg3 : arg3.IsWhole) (arg4 : Memref sig .tc .vmem S257x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S1x8x512 .f32) (harg10 : arg10.IsWhole) (arg11 : Memref sig .tc .vmem S1x8x512 .f32) (harg11 : arg11.IsWhole) (v8 : FVec F S512x512 .f32) (v27 : IVec S4096x512 1) (v33 : FVec F S4096x512 .f32) (v5285 : FVec F S1x512 .f32) (v6964 : FVec F S8x512 .f32) (v6965 : FVec F S8x512 .f32) (v6968 : FVec F S8x512 .f32) (v6970 : FVec F S8x512 .f32) (v6983 : BitVec 1) (v5752 : FVec F S8x512 .f32) (v5280 : IVec S8x512 32) :
    Prog (TpuEff nD τ sig (Elt F) Λ₀ .tc) (Σ' (v7560 : IVec S1x512 32) (v8585 : IVec S8x512 32) (v8586 : FVec F S8x512 .f32) (v8628 : IVec S1x512 1) (c16_i32_2010 : BitVec 32) (v8630 : IVec S1x512 32) (v8637 : IVec S1x512 32), BitVec 1) := do
  let ⟨v7030, v7031⟩ : Σ' (v7030 : FVec F S4096x512 .f32), FVec F S4096x512 .f32 ← k0_part148 i arg1 harg1 arg2 harg2 arg3 harg3 arg4 harg4 arg5 harg5 arg6 harg6 arg7 harg7 arg8 harg8 arg9 harg9 arg10 harg10 arg11 harg11 v8 v27 v33 v5285 v6964 v6965 v6968 v6970 v6983 1#1
  let ⟨v7073, v7076, v7078⟩ : Σ' (v7073 : FVec F S4096x512 .f32) (v7076 : FVec F S1x512 .f32), FVec F S512 .f32 ← k0_part149 i arg1 harg1 arg2 harg2 arg3 harg3 arg4 harg4 arg5 harg5 arg6 harg6 arg7 harg7 arg8 harg8 arg9 harg9 arg10 harg10 arg11 harg11 v27 v33 v7030 v7031
  let ⟨v7099, v7100, v7124, c2_i32_1607⟩ : Σ' (v7099 : FVec F S8x512 .f32) (v7100 : IVec S1x512 32) (v7124 : IVec S1x512 32), BitVec 32 ← k0_part150 i arg1 harg1 arg2 harg2 arg3 harg3 arg4 harg4 arg5 harg5 arg6 harg6 arg7 harg7 arg8 harg8 arg9 harg9 arg10 harg10 arg11 harg11 v5752 v7073 v7076 v7078
  let ⟨v7151, v7153, v7172⟩ : Σ' (v7151 : IVec S8x512 32) (v7153 : IVec S1x512 32), IVec S1x512 1 ← k0_part151 i arg1 harg1 arg2 harg2 arg3 harg3 arg4 harg4 arg5 harg5 arg6 harg6 arg7 harg7 arg8 harg8 arg9 harg9 arg10 harg10 arg11 harg11 v5280 v7100 v7124 c2_i32_1607
  let ⟨v7202, v7204, v7218, v7219⟩ : Σ' (v7202 : IVec S8x512 32) (v7204 : IVec S1x512 32) (v7218 : IVec S1x512 1), IVec S1x512 32 ← k0_part152 i arg1 harg1 arg2 harg2 arg3 harg3 arg4 harg4 arg5 harg5 arg6 harg6 arg7 harg7 arg8 harg8 arg9 harg9 arg10 harg10 arg11 harg11 v7100 v7151 v7153 v7172
  let ⟨v7253, c8_i32_1642, v7255, v7262, v7264, v7265⟩ : Σ' (v7253 : IVec S8x512 32) (c8_i32_1642 : BitVec 32) (v7255 : IVec S1x512 32) (v7262 : IVec S1x512 32) (v7264 : BitVec 32), BitVec 1 ← k0_part153 i arg1 harg1 arg2 harg2 arg3 harg3 arg4 harg4 arg5 harg5 arg6 harg6 arg7 harg7 arg8 harg8 arg9 harg9 arg10 harg10 arg11 harg11 v7100 v7202 v7204 v7218 v7219
  let ⟨v7304, c16_i32_1656, v7306, v7313⟩ : Σ' (v7304 : IVec S8x512 32) (c16_i32_1656 : BitVec 32) (v7306 : IVec S1x512 32), IVec S1x512 32 ← k0_part154 i arg1 harg1 arg2 harg2 arg3 harg3 arg4 harg4 arg5 harg5 arg6 harg6 arg7 harg7 arg8 harg8 arg9 harg9 arg10 harg10 arg11 harg11 v7100 v7253 c8_i32_1642 v7255 v7262 v7264 v7265
  let ⟨v7355, c32_i32_1670, v7357, v7360⟩ : Σ' (v7355 : IVec S8x512 32) (c32_i32_1670 : BitVec 32) (v7357 : IVec S1x512 32), IVec S1x512 32 ← k0_part155 i arg1 harg1 arg2 harg2 arg3 harg3 arg4 harg4 arg5 harg5 arg6 harg6 arg7 harg7 arg8 harg8 arg9 harg9 arg10 harg10 arg11 harg11 v7100 v7304 c16_i32_1656 v7306 v7313
  let ⟨v7406, c64_i32_1684, v7407⟩ : Σ' (v7406 : IVec S8x512 32) (c64_i32_1684 : BitVec 32), IVec S1x512 32 ← k0_part156 i arg1 harg1 arg2 harg2 arg3 harg3 arg4 harg4 arg5 harg5 arg6 harg6 arg7 harg7 arg8 harg8 arg9 harg9 arg10 harg10 arg11 harg11 v7100 v7355 c32_i32_1670 v7357 v7360
  let ⟨v7448, v7451, v7454⟩ : Σ' (v7448 : IVec S1x512 1) (v7451 : IVec S8x512 32), IVec S8x512 32 ← k0_part157 i arg1 harg1 arg2 harg2 arg3 harg3 arg4 harg4 arg5 harg5 arg6 harg6 arg7 harg7 arg8 harg8 arg9 harg9 arg10 harg10 arg11 harg11 v7100 v7406 c64_i32_1684 v7407
  let ⟨v7457, v7499, v7500⟩ : Σ' (v7457 : IVec S8x512 32) (v7499 : IVec S1x512 1), IVec S8x384 32 ← k0_part158 i arg1 harg1 arg2 harg2 arg3 harg3 arg4 harg4 arg5 harg5 arg6 harg6 arg7 harg7 arg8 harg8 arg9 harg9 arg10 harg10 arg11 harg11 v7100 v7448 v7451 v7454
  let ⟨v7508, v7536, v7545, v7547⟩ : Σ' (v7508 : IVec S8x512 32) (v7536 : IVec S1x512 32) (v7545 : IVec S1x512 1), IVec S1x512 32 ← k0_part159 i arg1 harg1 arg2 harg2 arg3 harg3 arg4 harg4 arg5 harg5 arg6 harg6 arg7 harg7 arg8 harg8 arg9 harg9 arg10 harg10 arg11 harg11 v7100 v7457 v7499 v7500
  let ⟨v7559, v7560, v7586, v7588, v7590, v7592, v7593⟩ : Σ' (v7559 : IVec S8x512 32) (v7560 : IVec S1x512 32) (v7586 : BitVec 32) (v7588 : IVec S1x512 32) (v7590 : IVec S1x512 1) (v7592 : IVec S1x512 1), BitVec 1 ← k0_part160 i arg1 harg1 arg2 harg2 arg3 harg3 arg4 harg4 arg5 harg5 arg6 harg6 arg7 harg7 arg8 harg8 arg9 harg9 arg10 harg10 arg11 harg11 v7508 v7536 v7545 v7547
  let ⟨v7602, v7628, v7630, v7639⟩ : Σ' (v7602 : IVec S1x512 1) (v7628 : BitVec 32) (v7630 : IVec S1x512 32), IVec S1x512 1 ← k0_part161 i arg1 harg1 arg2 harg2 arg3 harg3 arg4 harg4 arg5 harg5 arg6 harg6 arg7 harg7 arg8 harg8 arg9 harg9 arg10 harg10 arg11 harg11 v7560 v7586 v7588 v7590 v7592 v7593
  let ⟨v7673, v7674, v7676, v7690, v7691⟩ : Σ' (v7673 : IVec S8x512 32) (v7674 : FVec F S8x512 .f32) (v7676 : IVec S1x512 32) (v7690 : IVec S1x512 1), IVec S1x512 32 ← k0_part162 i arg1 harg1 arg2 harg2 arg3 harg3 arg4 harg4 arg5 harg5 arg6 harg6 arg7 harg7 arg8 harg8 arg9 harg9 arg10 harg10 arg11 harg11 v7099 v7559 v7560 v7602 v7628 v7630 v7639
  let ⟨v7716, v7718, v7732, v7736⟩ : Σ' (v7716 : IVec S1x512 1) (v7718 : IVec S1x512 32) (v7732 : IVec S1x512 1), IVec S1x512 1 ← k0_part163 i arg1 harg1 arg2 harg2 arg3 harg3 arg4 harg4 arg5 harg5 arg6 harg6 arg7 harg7 arg8 harg8 arg9 harg9 arg10 harg10 arg11 harg11 v7560 v7676 v7690 v7691
  let ⟨v7767, v7776, v7786⟩ : Σ' (v7767 : IVec S8x512 32) (v7776 : FVec F S8x512 .f32), IVec S8x512 1 ← k0_part164 i arg1 harg1 arg2 harg2 arg3 harg3 arg4 harg4 arg5 harg5 arg6 harg6 arg7 harg7 arg8 harg8 arg9 harg9 arg10 harg10 arg11 harg11 v7673 v7674 v7716 v7718 v7732 v7736
  let ⟨v7787, v7788, v7830, c4_i32_1800, v7831⟩ : Σ' (v7787 : IVec S8x512 32) (v7788 : FVec F S8x512 .f32) (v7830 : IVec S1x512 1) (c4_i32_1800 : BitVec 32), IVec S1x512 32 ← k0_part165 i arg1 harg1 arg2 harg2 arg3 harg3 arg4 harg4 arg5 harg5 arg6 harg6 arg7 harg7 arg8 harg8 arg9 harg9 arg10 harg10 arg11 harg11 v7560 v7673 v7674 v7767 v7776 v7786
  let ⟨v7872, v7875, v7878⟩ : Σ' (v7872 : IVec S1x512 1) (v7875 : IVec S8x512 32), IVec S8x512 32 ← k0_part166 i arg1 harg1 arg2 harg2 arg3 harg3 arg4 harg4 arg5 harg5 arg6 harg6 arg7 harg7 arg8 harg8 arg9 harg9 arg10 harg10 arg11 harg11 v7560 v7787 c4_i32_1800 v7831
  let ⟨v7901, v7902, v7926, c2_i32_1823, v7927⟩ : Σ' (v7901 : IVec S8x512 32) (v7902 : FVec F S8x512 .f32) (v7926 : IVec S1x512 32) (c2_i32_1823 : BitVec 32), BitVec 1 ← k0_part167 i arg1 harg1 arg2 harg2 arg3 harg3 arg4 harg4 arg5 harg5 arg6 harg6 arg7 harg7 arg8 harg8 arg9 harg9 arg10 harg10 arg11 harg11 v7560 v7787 v7788 v7830 v7872 v7875 v7878
  let ⟨v7944, v7970, v7972⟩ : Σ' (v7944 : IVec S1x512 1) (v7970 : BitVec 32), IVec S1x512 32 ← k0_part168 i arg1 harg1 arg2 harg2 arg3 harg3 arg4 harg4 arg5 harg5 arg6 harg6 arg7 harg7 arg8 harg8 arg9 harg9 arg10 harg10 arg11 harg11 v7560 v7926 c2_i32_1823 v7927
  let ⟨v8015, v8016, c2_i32_1846, v8018, v8021, v8023⟩ : Σ' (v8015 : IVec S8x512 32) (v8016 : FVec F S8x512 .f32) (c2_i32_1846 : BitVec 32) (v8018 : IVec S1x512 32) (v8021 : IVec S1x512 32), IVec S1x512 1 ← k0_part169 i arg1 harg1 arg2 harg2 arg3 harg3 arg4 harg4 arg5 harg5 arg6 harg6 arg7 harg7 arg8 harg8 arg9 harg9 arg10 harg10 arg11 harg11 v7560 v7901 v7902 v7944 v7970 v7972
  let ⟨v8058, c8_i32_1860, v8060, v8067, v8068⟩ : Σ' (v8058 : IVec S1x512 1) (c8_i32_1860 : BitVec 32) (v8060 : IVec S1x512 32) (v8067 : IVec S1x512 32), BitVec 1 ← k0_part170 i arg1 harg1 arg2 harg2 arg3 harg3 arg4 harg4 arg5 harg5 arg6 harg6 arg7 harg7 arg8 harg8 arg9 harg9 arg10 harg10 arg11 harg11 v7560 c2_i32_1846 v8018 v8021 v8023
  let ⟨v8100, v8109, v8118⟩ : Σ' (v8100 : IVec S1x512 1) (v8109 : IVec S8x512 32), FVec F S8x512 .f32 ← k0_part171 i arg1 harg1 arg2 harg2 arg3 harg3 arg4 harg4 arg5 harg5 arg6 harg6 arg7 harg7 arg8 harg8 arg9 harg9 arg10 harg10 arg11 harg11 v7560 v8015 v8016 v8058 c8_i32_1860 v8060 v8067 v8068
  let ⟨v8129, v8130, v8156, v8158, v8160, v8162, v8163⟩ : Σ' (v8129 : IVec S8x512 32) (v8130 : FVec F S8x512 .f32) (v8156 : BitVec 32) (v8158 : IVec S1x512 32) (v8160 : IVec S1x512 1) (v8162 : IVec S1x512 1), BitVec 1 ← k0_part172 i arg1 harg1 arg2 harg2 arg3 harg3 arg4 harg4 arg5 harg5 arg6 harg6 arg7 harg7 arg8 harg8 arg9 harg9 arg10 harg10 arg11 harg11 v7560 v8015 v8016 v8058 v8100 v8109 v8118
  let ⟨v8172, v8198, v8200, v8209⟩ : Σ' (v8172 : IVec S1x512 1) (v8198 : BitVec 32) (v8200 : IVec S1x512 32), IVec S1x512 1 ← k0_part173 i arg1 harg1 arg2 harg2 arg3 harg3 arg4 harg4 arg5 harg5 arg6 harg6 arg7 harg7 arg8 harg8 arg9 harg9 arg10 harg10 arg11 harg11 v7560 v8156 v8158 v8160 v8162 v8163
  let ⟨v8243, v8244, v8246, v8260, v8261⟩ : Σ' (v8243 : IVec S8x512 32) (v8244 : FVec F S8x512 .f32) (v8246 : IVec S1x512 32) (v8260 : IVec S1x512 1), IVec S1x512 32 ← k0_part174 i arg1 harg1 arg2 harg2 arg3 harg3 arg4 harg4 arg5 harg5 arg6 harg6 arg7 harg7 arg8 harg8 arg9 harg9 arg10 harg10 arg11 harg11 v7560 v8129 v8130 v8172 v8198 v8200 v8209
  let ⟨v8286, v8288, v8302, v8306⟩ : Σ' (v8286 : IVec S1x512 1) (v8288 : IVec S1x512 32) (v8302 : IVec S1x512 1), IVec S1x512 1 ← k0_part175 i arg1 harg1 arg2 harg2 arg3 harg3 arg4 harg4 arg5 harg5 arg6 harg6 arg7 harg7 arg8 harg8 arg9 harg9 arg10 harg10 arg11 harg11 v7560 v8246 v8260 v8261
  let ⟨v8337, v8346, v8356⟩ : Σ' (v8337 : IVec S8x512 32) (v8346 : FVec F S8x512 .f32), IVec S8x512 1 ← k0_part176 i arg1 harg1 arg2 harg2 arg3 harg3 arg4 harg4 arg5 harg5 arg6 harg6 arg7 harg7 arg8 harg8 arg9 harg9 arg10 harg10 arg11 harg11 v8243 v8244 v8286 v8288 v8302 v8306
  let ⟨v8357, v8358, v8400, c16_i32_1950, v8401⟩ : Σ' (v8357 : IVec S8x512 32) (v8358 : FVec F S8x512 .f32) (v8400 : IVec S1x512 1) (c16_i32_1950 : BitVec 32), IVec S1x512 32 ← k0_part177 i arg1 harg1 arg2 harg2 arg3 harg3 arg4 harg4 arg5 harg5 arg6 harg6 arg7 harg7 arg8 harg8 arg9 harg9 arg10 harg10 arg11 harg11 v7560 v8243 v8244 v8337 v8346 v8356
  let ⟨v8442, v8445, v8448⟩ : Σ' (v8442 : IVec S1x512 1) (v8445 : IVec S8x512 32), IVec S8x512 32 ← k0_part178 i arg1 harg1 arg2 harg2 arg3 harg3 arg4 harg4 arg5 harg5 arg6 harg6 arg7 harg7 arg8 harg8 arg9 harg9 arg10 harg10 arg11 harg11 v7560 v8357 c16_i32_1950 v8401
  let ⟨v8471, v8472, v8496, c2_i32_1973, v8497⟩ : Σ' (v8471 : IVec S8x512 32) (v8472 : FVec F S8x512 .f32) (v8496 : IVec S1x512 32) (c2_i32_1973 : BitVec 32), BitVec 1 ← k0_part179 i arg1 harg1 arg2 harg2 arg3 harg3 arg4 harg4 arg5 harg5 arg6 harg6 arg7 harg7 arg8 harg8 arg9 harg9 arg10 harg10 arg11 harg11 v7560 v8357 v8358 v8400 v8442 v8445 v8448
  let ⟨v8514, v8540, v8542⟩ : Σ' (v8514 : IVec S1x512 1) (v8540 : BitVec 32), IVec S1x512 32 ← k0_part180 i arg1 harg1 arg2 harg2 arg3 harg3 arg4 harg4 arg5 harg5 arg6 harg6 arg7 harg7 arg8 harg8 arg9 harg9 arg10 harg10 arg11 harg11 v7560 v8496 c2_i32_1973 v8497
  let ⟨v8585, v8586, c1_i32_1996, v8588, v8591, v8593⟩ : Σ' (v8585 : IVec S8x512 32) (v8586 : FVec F S8x512 .f32) (c1_i32_1996 : BitVec 32) (v8588 : IVec S1x512 32) (v8591 : IVec S1x512 32), IVec S1x512 1 ← k0_part181 i arg1 harg1 arg2 harg2 arg3 harg3 arg4 harg4 arg5 harg5 arg6 harg6 arg7 harg7 arg8 harg8 arg9 harg9 arg10 harg10 arg11 harg11 v7560 v8471 v8472 v8514 v8540 v8542
  let ⟨v8628, c16_i32_2010, v8630, v8637, v8638⟩ : Σ' (v8628 : IVec S1x512 1) (c16_i32_2010 : BitVec 32) (v8630 : IVec S1x512 32) (v8637 : IVec S1x512 32), BitVec 1 ← k0_part182 i arg1 harg1 arg2 harg2 arg3 harg3 arg4 harg4 arg5 harg5 arg6 harg6 arg7 harg7 arg8 harg8 arg9 harg9 arg10 harg10 arg11 harg11 v7560 c1_i32_1996 v8588 v8591 v8593
  pure ⟨v7560, v8585, v8586, v8628, c16_i32_2010, v8630, v8637, v8638⟩

/-- The printed body from its branches on, over the values read there. -/
def tail (i : grid0.Coords) (arg1 : Memref sig .tc .vmem S1x8x128 .f32) (harg1 : arg1.IsWhole) (arg2 : Memref sig .tc .vmem S8x512x128 .f32) (harg2 : arg2.IsWhole) (arg3 : Memref sig .tc .vmem S1x8x512 .f32) (harg3 : arg3.IsWhole) (arg4 : Memref sig .tc .vmem S257x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S1x8x512 .f32) (harg10 : arg10.IsWhole) (arg11 : Memref sig .tc .vmem S1x8x512 .f32) (harg11 : arg11.IsWhole) (v8 : FVec F S512x512 .f32) (v27 : IVec S4096x512 1) (v33 : FVec F S4096x512 .f32) (v5285 : FVec F S1x512 .f32) (v6964 : FVec F S8x512 .f32) (v6965 : FVec F S8x512 .f32) (v6968 : FVec F S8x512 .f32) (v6970 : FVec F S8x512 .f32) (v6983 : BitVec 1) (v5752 : FVec F S8x512 .f32) (v5280 : IVec S8x512 32) :
    Prog (TpuEff nD τ sig (Elt F) Λ₀ .tc) PUnit := do
  let ⟨v7560, v8585, v8586, v8628, c16_i32_2010, v8630, v8637, v8638⟩ : Σ' (v7560 : IVec S1x512 32) (v8585 : IVec S8x512 32) (v8586 : FVec F S8x512 .f32) (v8628 : IVec S1x512 1) (c16_i32_2010 : BitVec 32) (v8630 : IVec S1x512 32) (v8637 : IVec S1x512 32), BitVec 1 ← tailInner i arg1 harg1 arg2 harg2 arg3 harg3 arg4 harg4 arg5 harg5 arg6 harg6 arg7 harg7 arg8 harg8 arg9 harg9 arg10 harg10 arg11 harg11 v8 v27 v33 v5285 v6964 v6965 v6968 v6970 v6983 v5752 v5280
  let ⟨v11435, v11436, v11478, c256_i32_2760, v11480, v11487, v11488⟩ : Σ' (v11435 : IVec S8x512 32) (v11436 : FVec F S8x512 .f32) (v11478 : IVec S1x512 1) (c256_i32_2760 : BitVec 32) (v11480 : IVec S1x512 32) (v11487 : IVec S1x512 32), BitVec 1 ← k0_part271 i arg1 harg1 arg2 harg2 arg3 harg3 arg4 harg4 arg5 harg5 arg6 harg6 arg7 harg7 arg8 harg8 arg9 harg9 arg10 harg10 arg11 harg11 v7560 v8585 v8586 v8628 c16_i32_2010 v8630 v8637 v8638
  let ⟨v11520, v11529, v11538⟩ : Σ' (v11520 : IVec S1x512 1) (v11529 : IVec S8x512 32), FVec F S8x512 .f32 ← k0_part243 i arg1 harg1 arg2 harg2 arg3 harg3 arg4 harg4 arg5 harg5 arg6 harg6 arg7 harg7 arg8 harg8 arg9 harg9 arg10 harg10 arg11 harg11 v7560 v11435 v11436 v11478 c256_i32_2760 v11480 v11487 v11488
  let ⟨v11549, v11550, v11576, v11578, v11580, v11582, v11583⟩ : Σ' (v11549 : IVec S8x512 32) (v11550 : FVec F S8x512 .f32) (v11576 : BitVec 32) (v11578 : IVec S1x512 32) (v11580 : IVec S1x512 1) (v11582 : IVec S1x512 1), BitVec 1 ← k0_part244 i arg1 harg1 arg2 harg2 arg3 harg3 arg4 harg4 arg5 harg5 arg6 harg6 arg7 harg7 arg8 harg8 arg9 harg9 arg10 harg10 arg11 harg11 v7560 v11435 v11436 v11478 v11520 v11529 v11538
  let ⟨v11592, v11618, v11620, v11629⟩ : Σ' (v11592 : IVec S1x512 1) (v11618 : BitVec 32) (v11620 : IVec S1x512 32), IVec S1x512 1 ← k0_part245 i arg1 harg1 arg2 harg2 arg3 harg3 arg4 harg4 arg5 harg5 arg6 harg6 arg7 harg7 arg8 harg8 arg9 harg9 arg10 harg10 arg11 harg11 v7560 v11576 v11578 v11580 v11582 v11583
  let ⟨v11663, v11664, v11666, v11680, v11681⟩ : Σ' (v11663 : IVec S8x512 32) (v11664 : FVec F S8x512 .f32) (v11666 : IVec S1x512 32) (v11680 : IVec S1x512 1), IVec S1x512 32 ← k0_part246 i arg1 harg1 arg2 harg2 arg3 harg3 arg4 harg4 arg5 harg5 arg6 harg6 arg7 harg7 arg8 harg8 arg9 harg9 arg10 harg10 arg11 harg11 v7560 v11549 v11550 v11592 v11618 v11620 v11629
  let ⟨v11706, v11708, v11722, v11726⟩ : Σ' (v11706 : IVec S1x512 1) (v11708 : IVec S1x512 32) (v11722 : IVec S1x512 1), IVec S1x512 1 ← k0_part247 i arg1 harg1 arg2 harg2 arg3 harg3 arg4 harg4 arg5 harg5 arg6 harg6 arg7 harg7 arg8 harg8 arg9 harg9 arg10 harg10 arg11 harg11 v7560 v11666 v11680 v11681
  let ⟨v11757, v11766, v11776⟩ : Σ' (v11757 : IVec S8x512 32) (v11766 : FVec F S8x512 .f32), IVec S8x512 1 ← k0_part248 i arg1 harg1 arg2 harg2 arg3 harg3 arg4 harg4 arg5 harg5 arg6 harg6 arg7 harg7 arg8 harg8 arg9 harg9 arg10 harg10 arg11 harg11 v11663 v11664 v11706 v11708 v11722 v11726
  let ⟨v11777, v11778, v11820, c512_i32_2850, v11821⟩ : Σ' (v11777 : IVec S8x512 32) (v11778 : FVec F S8x512 .f32) (v11820 : IVec S1x512 1) (c512_i32_2850 : BitVec 32), IVec S1x512 32 ← k0_part249 i arg1 harg1 arg2 harg2 arg3 harg3 arg4 harg4 arg5 harg5 arg6 harg6 arg7 harg7 arg8 harg8 arg9 harg9 arg10 harg10 arg11 harg11 v7560 v11663 v11664 v11757 v11766 v11776
  let ⟨v11862, v11865, v11868⟩ : Σ' (v11862 : IVec S1x512 1) (v11865 : IVec S8x512 32), IVec S8x512 32 ← k0_part250 i arg1 harg1 arg2 harg2 arg3 harg3 arg4 harg4 arg5 harg5 arg6 harg6 arg7 harg7 arg8 harg8 arg9 harg9 arg10 harg10 arg11 harg11 v7560 v11777 c512_i32_2850 v11821
  let ⟨v11891, v11892, v11916, c2_i32_2873, v11917⟩ : Σ' (v11891 : IVec S8x512 32) (v11892 : FVec F S8x512 .f32) (v11916 : IVec S1x512 32) (c2_i32_2873 : BitVec 32), BitVec 1 ← k0_part251 i arg1 harg1 arg2 harg2 arg3 harg3 arg4 harg4 arg5 harg5 arg6 harg6 arg7 harg7 arg8 harg8 arg9 harg9 arg10 harg10 arg11 harg11 v7560 v11777 v11778 v11820 v11862 v11865 v11868
  let ⟨v11934, v11960, v11962⟩ : Σ' (v11934 : IVec S1x512 1) (v11960 : BitVec 32), IVec S1x512 32 ← k0_part252 i arg1 harg1 arg2 harg2 arg3 harg3 arg4 harg4 arg5 harg5 arg6 harg6 arg7 harg7 arg8 harg8 arg9 harg9 arg10 harg10 arg11 harg11 v7560 v11916 c2_i32_2873 v11917
  let ⟨v12005, v12006, c32_i32_2896, v12008, v12011, v12013⟩ : Σ' (v12005 : IVec S8x512 32) (v12006 : FVec F S8x512 .f32) (c32_i32_2896 : BitVec 32) (v12008 : IVec S1x512 32) (v12011 : IVec S1x512 32), IVec S1x512 1 ← k0_part253 i arg1 harg1 arg2 harg2 arg3 harg3 arg4 harg4 arg5 harg5 arg6 harg6 arg7 harg7 arg8 harg8 arg9 harg9 arg10 harg10 arg11 harg11 v7560 v11891 v11892 v11934 v11960 v11962
  let ⟨v12048, c512_i32_2910, v12050, v12057, v12058⟩ : Σ' (v12048 : IVec S1x512 1) (c512_i32_2910 : BitVec 32) (v12050 : IVec S1x512 32) (v12057 : IVec S1x512 32), BitVec 1 ← k0_part254 i arg1 harg1 arg2 harg2 arg3 harg3 arg4 harg4 arg5 harg5 arg6 harg6 arg7 harg7 arg8 harg8 arg9 harg9 arg10 harg10 arg11 harg11 v7560 c32_i32_2896 v12008 v12011 v12013
  let ⟨v12090, v12099, v12108⟩ : Σ' (v12090 : IVec S1x512 1) (v12099 : IVec S8x512 32), FVec F S8x512 .f32 ← k0_part255 i arg1 harg1 arg2 harg2 arg3 harg3 arg4 harg4 arg5 harg5 arg6 harg6 arg7 harg7 arg8 harg8 arg9 harg9 arg10 harg10 arg11 harg11 v7560 v12005 v12006 v12048 c512_i32_2910 v12050 v12057 v12058
  let ⟨v12119, v12120, v12146, v12148, v12150, v12152, v12153⟩ : Σ' (v12119 : IVec S8x512 32) (v12120 : FVec F S8x512 .f32) (v12146 : BitVec 32) (v12148 : IVec S1x512 32) (v12150 : IVec S1x512 1) (v12152 : IVec S1x512 1), BitVec 1 ← k0_part256 i arg1 harg1 arg2 harg2 arg3 harg3 arg4 harg4 arg5 harg5 arg6 harg6 arg7 harg7 arg8 harg8 arg9 harg9 arg10 harg10 arg11 harg11 v7560 v12005 v12006 v12048 v12090 v12099 v12108
  let ⟨v12162, v12188, v12190, v12199⟩ : Σ' (v12162 : IVec S1x512 1) (v12188 : BitVec 32) (v12190 : IVec S1x512 32), IVec S1x512 1 ← k0_part257 i arg1 harg1 arg2 harg2 arg3 harg3 arg4 harg4 arg5 harg5 arg6 harg6 arg7 harg7 arg8 harg8 arg9 harg9 arg10 harg10 arg11 harg11 v7560 v12146 v12148 v12150 v12152 v12153
  let ⟨v12233, v12234, v12236, v12250, v12251⟩ : Σ' (v12233 : IVec S8x512 32) (v12234 : FVec F S8x512 .f32) (v12236 : IVec S1x512 32) (v12250 : IVec S1x512 1), IVec S1x512 32 ← k0_part258 i arg1 harg1 arg2 harg2 arg3 harg3 arg4 harg4 arg5 harg5 arg6 harg6 arg7 harg7 arg8 harg8 arg9 harg9 arg10 harg10 arg11 harg11 v7560 v12119 v12120 v12162 v12188 v12190 v12199
  let ⟨v12276, v12278, v12292, v12296⟩ : Σ' (v12276 : IVec S1x512 1) (v12278 : IVec S1x512 32) (v12292 : IVec S1x512 1), IVec S1x512 1 ← k0_part259 i arg1 harg1 arg2 harg2 arg3 harg3 arg4 harg4 arg5 harg5 arg6 harg6 arg7 harg7 arg8 harg8 arg9 harg9 arg10 harg10 arg11 harg11 v7560 v12236 v12250 v12251
  let ⟨v12327, v12336, v12346⟩ : Σ' (v12327 : IVec S8x512 32) (v12336 : FVec F S8x512 .f32), IVec S8x512 1 ← k0_part260 i arg1 harg1 arg2 harg2 arg3 harg3 arg4 harg4 arg5 harg5 arg6 harg6 arg7 harg7 arg8 harg8 arg9 harg9 arg10 harg10 arg11 harg11 v12233 v12234 v12276 v12278 v12292 v12296
  let ⟨v12347, v12348, v12390, c512_i32_3000, v12391⟩ : Σ' (v12347 : IVec S8x512 32) (v12348 : FVec F S8x512 .f32) (v12390 : IVec S1x512 1) (c512_i32_3000 : BitVec 32), IVec S1x512 32 ← k0_part261 i arg1 harg1 arg2 harg2 arg3 harg3 arg4 harg4 arg5 harg5 arg6 harg6 arg7 harg7 arg8 harg8 arg9 harg9 arg10 harg10 arg11 harg11 v7560 v12233 v12234 v12327 v12336 v12346
  let ⟨v12432, v12435, v12438⟩ : Σ' (v12432 : IVec S1x512 1) (v12435 : IVec S8x512 32), IVec S8x512 32 ← k0_part262 i arg1 harg1 arg2 harg2 arg3 harg3 arg4 harg4 arg5 harg5 arg6 harg6 arg7 harg7 arg8 harg8 arg9 harg9 arg10 harg10 arg11 harg11 v7560 v12347 c512_i32_3000 v12391
  let ⟨v12461, v12462, v12486, c2_i32_3023, v12487⟩ : Σ' (v12461 : IVec S8x512 32) (v12462 : FVec F S8x512 .f32) (v12486 : IVec S1x512 32) (c2_i32_3023 : BitVec 32), BitVec 1 ← k0_part263 i arg1 harg1 arg2 harg2 arg3 harg3 arg4 harg4 arg5 harg5 arg6 harg6 arg7 harg7 arg8 harg8 arg9 harg9 arg10 harg10 arg11 harg11 v7560 v12347 v12348 v12390 v12432 v12435 v12438
  let ⟨v12504, v12530, v12532⟩ : Σ' (v12504 : IVec S1x512 1) (v12530 : BitVec 32), IVec S1x512 32 ← k0_part264 i arg1 harg1 arg2 harg2 arg3 harg3 arg4 harg4 arg5 harg5 arg6 harg6 arg7 harg7 arg8 harg8 arg9 harg9 arg10 harg10 arg11 harg11 v7560 v12486 c2_i32_3023 v12487
  let ⟨v12575, v12576, c1_i32_3046, v12578, v12581, v12583⟩ : Σ' (v12575 : IVec S8x512 32) (v12576 : FVec F S8x512 .f32) (c1_i32_3046 : BitVec 32) (v12578 : IVec S1x512 32) (v12581 : IVec S1x512 32), IVec S1x512 1 ← k0_part265 i arg1 harg1 arg2 harg2 arg3 harg3 arg4 harg4 arg5 harg5 arg6 harg6 arg7 harg7 arg8 harg8 arg9 harg9 arg10 harg10 arg11 harg11 v7560 v12461 v12462 v12504 v12530 v12532
  let ⟨v12618, c512_i32_3060, v12620, v12627, v12628⟩ : Σ' (v12618 : IVec S1x512 1) (c512_i32_3060 : BitVec 32) (v12620 : IVec S1x512 32) (v12627 : IVec S1x512 32), BitVec 1 ← k0_part266 i arg1 harg1 arg2 harg2 arg3 harg3 arg4 harg4 arg5 harg5 arg6 harg6 arg7 harg7 arg8 harg8 arg9 harg9 arg10 harg10 arg11 harg11 v7560 c1_i32_3046 v12578 v12581 v12583
  let ⟨v12660, v12669, v12678⟩ : Σ' (v12660 : IVec S1x512 1) (v12669 : IVec S8x512 32), FVec F S8x512 .f32 ← k0_part267 i arg1 harg1 arg2 harg2 arg3 harg3 arg4 harg4 arg5 harg5 arg6 harg6 arg7 harg7 arg8 harg8 arg9 harg9 arg10 harg10 arg11 harg11 v7560 v12575 v12576 v12618 c512_i32_3060 v12620 v12627 v12628
  have v12679 : IVec S1x512 1 := xori v12618 v12660
  have cst_3074 : IVec S1x512 1 := constantI S1x512 1 1#1
  have v12680 : IVec S1x512 1 := xori v12679 cst_3074
  have v12681 : IVec S8x512 1 := cmpi .sle v12575 v12669
  have v12682 : IVec S8x512 1 := broadcastTo S8x512 v12680 broadcasts_S1x512_S8x512
  have v12683 : IVec S8x512 1 := andi v12682 v12681
  have cst_3075 : IVec S1x512 1 := constantI S1x512 1 1#1
  have v12684 : IVec S1x512 1 := xori v12680 cst_3075
  have v12685 : IVec S8x512 1 := cmpi .sge v12575 v12669
  have v12686 : IVec S8x512 1 := broadcastTo S8x512 v12684 broadcasts_S1x512_S8x512
  have v12687 : IVec S8x512 1 := andi v12686 v12685
  have v12688 : IVec S8x512 1 := ori v12683 v12687
  have v12689 : FVec F S8x512 .f32 := select v12688 v12576 v12678
  let c0_3076 : Index := 0#32
  let c0_3077 : Index := 0#32
  let c0_3078 : Index := 0#32
  let v12690 : Vec F S1x8x512 .f32 ← Prog.lift (.load arg11 (Rect.unit (s := S1x8x512) ![0, 0, 0] S1x8x512.size inb_S1x8x512_S1x8x512_0_0_0).toLoadRect (View.loadsAt_vmem h_S1x8x512))
  have v12691 : FVec F S8x512 .f32 := shapeCast S8x512 v12690 shapeCasts_S1x8x512_S8x512
  have v12692 : FVec F S1x8x512 .f32 := shapeCast S1x8x512 v12689 shapeCasts_S8x512_S1x8x512
  Prog.lift (.store arg11 (Rect.unit (s := S1x8x512) ![0, 0, 0] S1x8x512.size inb_S1x8x512_S1x8x512_0_0_0) v12692 Finset.univ (View.stores_vmem_bits_univ h_S1x8x512 rfl) (.inl rfl))
  pure ⟨⟩

/-- The body's two stores: `a` into the first result's block, `b` into the second's. -/
def stores (i : grid0.Coords) (arg1 : Memref sig .tc .vmem S1x8x128 .f32) (harg1 : arg1.IsWhole) (arg2 : Memref sig .tc .vmem S8x512x128 .f32) (harg2 : arg2.IsWhole) (arg3 : Memref sig .tc .vmem S1x8x512 .f32) (harg3 : arg3.IsWhole) (arg4 : Memref sig .tc .vmem S257x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S1x8x512 .f32) (harg10 : arg10.IsWhole) (arg11 : Memref sig .tc .vmem S1x8x512 .f32) (harg11 : arg11.IsWhole) (a b : FVec F S1x8x512 .f32) :
    Prog (TpuEff nD τ sig (Elt F) Λ₀ .tc) PUnit := do
  let _ : Vec F S1x8x512 .f32 ← Prog.lift (.load arg10 (Rect.unit (s := S1x8x512) ![0, 0, 0] S1x8x512.size inb_S1x8x512_S1x8x512_0_0_0).toLoadRect (View.loadsAt_vmem h_S1x8x512))
  Prog.lift (.store arg10 (Rect.unit (s := S1x8x512) ![0, 0, 0] S1x8x512.size inb_S1x8x512_S1x8x512_0_0_0) a Finset.univ (View.stores_vmem_bits_univ h_S1x8x512 rfl) (.inl rfl))
  let _ : Vec F S1x8x512 .f32 ← Prog.lift (.load arg11 (Rect.unit (s := S1x8x512) ![0, 0, 0] S1x8x512.size inb_S1x8x512_S1x8x512_0_0_0).toLoadRect (View.loadsAt_vmem h_S1x8x512))
  Prog.lift (.store arg11 (Rect.unit (s := S1x8x512) ![0, 0, 0] S1x8x512.size inb_S1x8x512_S1x8x512_0_0_0) b Finset.univ (View.stores_vmem_bits_univ h_S1x8x512 rfl) (.inl rfl))
  pure ⟨⟩

/-- The body's loads, continued by `k` on the refined scores. -/
def loads (i : grid0.Coords) (arg1 : Memref sig .tc .vmem S1x8x128 .f32) (harg1 : arg1.IsWhole) (arg2 : Memref sig .tc .vmem S8x512x128 .f32) (harg2 : arg2.IsWhole) (arg3 : Memref sig .tc .vmem S1x8x512 .f32) (harg3 : arg3.IsWhole) (arg4 : Memref sig .tc .vmem S257x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S1x8x512 .f32) (harg10 : arg10.IsWhole) (arg11 : Memref sig .tc .vmem S1x8x512 .f32) (harg11 : arg11.IsWhole) (k : FVec F S8x512 .f32 → Prog (TpuEff nD τ sig (Elt F) Λ₀ .tc) PUnit) :
    Prog (TpuEff nD τ sig (Elt F) Λ₀ .tc) PUnit := do
  let v0 : Vec F S1x8x128 .f32 ← Prog.lift (.load arg1 (Rect.unit (s := S1x8x128) ![0, 0, 0] S1x8x128.size inb_S1x8x128_S1x8x128_0_0_0).toLoadRect (View.loadsAt_vmem h_S1x8x128))
  let v2 : Vec F S1x8x512 .f32 ← Prog.lift (.load arg3 (Rect.unit (s := S1x8x512) ![0, 0, 0] S1x8x512.size inb_S1x8x512_S1x8x512_0_0_0).toLoadRect (View.loadsAt_vmem h_S1x8x512))
  let v77 : Vec F S1x512x128 .f32 ← Prog.lift (.load arg2 (Rect.unit (s := S8x512x128) ![0, 0, 0] S1x512x128.size inb_S8x512x128_S1x512x128_0_0_0).toLoadRect (View.loadsAt_vmem h_S1x512x128))
  let v79 : Vec F S1x512x128 .f32 ← Prog.lift (.load arg2 (Rect.unit (s := S8x512x128) ![1, 0, 0] S1x512x128.size inb_S8x512x128_S1x512x128_1_0_0).toLoadRect (View.loadsAt_vmem h_S1x512x128))
  let v81 : Vec F S1x512x128 .f32 ← Prog.lift (.load arg2 (Rect.unit (s := S8x512x128) ![2, 0, 0] S1x512x128.size inb_S8x512x128_S1x512x128_2_0_0).toLoadRect (View.loadsAt_vmem h_S1x512x128))
  let v83 : Vec F S1x512x128 .f32 ← Prog.lift (.load arg2 (Rect.unit (s := S8x512x128) ![3, 0, 0] S1x512x128.size inb_S8x512x128_S1x512x128_3_0_0).toLoadRect (View.loadsAt_vmem h_S1x512x128))
  let v85 : Vec F S1x512x128 .f32 ← Prog.lift (.load arg2 (Rect.unit (s := S8x512x128) ![4, 0, 0] S1x512x128.size inb_S8x512x128_S1x512x128_4_0_0).toLoadRect (View.loadsAt_vmem h_S1x512x128))
  let v87 : Vec F S1x512x128 .f32 ← Prog.lift (.load arg2 (Rect.unit (s := S8x512x128) ![5, 0, 0] S1x512x128.size inb_S8x512x128_S1x512x128_5_0_0).toLoadRect (View.loadsAt_vmem h_S1x512x128))
  let v89 : Vec F S1x512x128 .f32 ← Prog.lift (.load arg2 (Rect.unit (s := S8x512x128) ![6, 0, 0] S1x512x128.size inb_S8x512x128_S1x512x128_6_0_0).toLoadRect (View.loadsAt_vmem h_S1x512x128))
  let v91 : Vec F S1x512x128 .f32 ← Prog.lift (.load arg2 (Rect.unit (s := S8x512x128) ![7, 0, 0] S1x512x128.size inb_S8x512x128_S1x512x128_7_0_0).toLoadRect (View.loadsAt_vmem h_S1x512x128))
  let v95 : Vec F S257x64 .f32 ← Prog.lift (.load arg4 (Rect.unit (s := S257x64) ![0, 0] S257x64.size inb_S257x64_S257x64_0_0).toLoadRect (View.loadsAt_vmem h_S257x64))
  let v97 : Vec F S1x64 .f32 ← Prog.lift (.load arg5 (Rect.unit (s := S1x64) ![0, 0] S1x64.size inb_S1x64_S1x64_0_0).toLoadRect (View.loadsAt_vmem h_S1x64))
  let v103 : Vec F S64x64 .f32 ← Prog.lift (.load arg6 (Rect.unit (s := S64x64) ![0, 0] S64x64.size inb_S64x64_S64x64_0_0).toLoadRect (View.loadsAt_vmem h_S64x64))
  let v105 : Vec F S1x64 .f32 ← Prog.lift (.load arg7 (Rect.unit (s := S1x64) ![0, 0] S1x64.size inb_S1x64_S1x64_0_0).toLoadRect (View.loadsAt_vmem h_S1x64))
  let v111 : Vec F S1x64 .f32 ← Prog.lift (.load arg8 (Rect.unit (s := S1x64) ![0, 0] S1x64.size inb_S1x64_S1x64_0_0).toLoadRect (View.loadsAt_vmem h_S1x64))
  let v115 : Vec F S1x64 .f32 ← Prog.lift (.load arg8 (Rect.unit (s := S1x64) ![0, 0] S1x64.size inb_S1x64_S1x64_0_0).toLoadRect (View.loadsAt_vmem h_S1x64))
  let v119 : Vec F S1x64 .f32 ← Prog.lift (.load arg8 (Rect.unit (s := S1x64) ![0, 0] S1x64.size inb_S1x64_S1x64_0_0).toLoadRect (View.loadsAt_vmem h_S1x64))
  let v123 : Vec F S1x64 .f32 ← Prog.lift (.load arg8 (Rect.unit (s := S1x64) ![0, 0] S1x64.size inb_S1x64_S1x64_0_0).toLoadRect (View.loadsAt_vmem h_S1x64))
  let v127 : Vec F S1x64 .f32 ← Prog.lift (.load arg8 (Rect.unit (s := S1x64) ![0, 0] S1x64.size inb_S1x64_S1x64_0_0).toLoadRect (View.loadsAt_vmem h_S1x64))
  let v131 : Vec F S1x64 .f32 ← Prog.lift (.load arg8 (Rect.unit (s := S1x64) ![0, 0] S1x64.size inb_S1x64_S1x64_0_0).toLoadRect (View.loadsAt_vmem h_S1x64))
  let v135 : Vec F S1x64 .f32 ← Prog.lift (.load arg8 (Rect.unit (s := S1x64) ![0, 0] S1x64.size inb_S1x64_S1x64_0_0).toLoadRect (View.loadsAt_vmem h_S1x64))
  let v139 : Vec F S1x64 .f32 ← Prog.lift (.load arg8 (Rect.unit (s := S1x64) ![0, 0] S1x64.size inb_S1x64_S1x64_0_0).toLoadRect (View.loadsAt_vmem h_S1x64))
  let v144 : Vec F S1x1 .f32 ← Prog.lift (.load arg9 (Rect.unit (s := S1x1) ![0, 0] S1x1.size inb_S1x1_S1x1_0_0).toLoadRect (View.loadsAt_vmem h_S1x1))
  k (refined (layers (features v0 ![v77, v79, v81, v83, v85, v87, v89, v91] v2) v95 v97 v103 v105) ![v111, v115, v119, v123, v127, v131, v135, v139] v144)

/-- The printed body is its loads, continued by the tail on the values of the refined scores. -/
theorem body_eq (i : grid0.Coords) (arg1 : Memref sig .tc .vmem S1x8x128 .f32) (harg1 : arg1.IsWhole) (arg2 : Memref sig .tc .vmem S8x512x128 .f32) (harg2 : arg2.IsWhole) (arg3 : Memref sig .tc .vmem S1x8x512 .f32) (harg3 : arg3.IsWhole) (arg4 : Memref sig .tc .vmem S257x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S1x8x512 .f32) (harg10 : arg10.IsWhole) (arg11 : Memref sig .tc .vmem S1x8x512 .f32) (harg11 : arg11.IsWhole) :
    cc0__fused_kernel (F := F) i arg1 harg1 arg2 harg2 arg3 harg3 arg4 harg4 arg5 harg5 arg6 harg6 arg7 harg7 arg8 harg8 arg9 harg9 arg10 harg10 arg11 harg11 = loads i arg1 harg1 arg2 harg2 arg3 harg3 arg4 harg4 arg5 harg5 arg6 harg6 arg7 harg7 arg8 harg8 arg9 harg9 arg10 harg10 arg11 harg11 fun x =>
      tail i arg1 harg1 arg2 harg2 arg3 harg3 arg4 harg4 arg5 harg5 arg6 harg6 arg7 harg7 arg8 harg8 arg9 harg9 arg10 harg10 arg11 harg11 ident maskM lengthM weights (sums1 x) (sums2 x) (before (sums1 x)) (before (sums2 x)) (violated x) (rankScores x)
        (sortDesc x).2 := by sl_kernel_rfl

/-- The tail at the branch condition `0`. -/
theorem tail_cheap (i : grid0.Coords) (arg1 : Memref sig .tc .vmem S1x8x128 .f32) (harg1 : arg1.IsWhole) (arg2 : Memref sig .tc .vmem S8x512x128 .f32) (harg2 : arg2.IsWhole) (arg3 : Memref sig .tc .vmem S1x8x512 .f32) (harg3 : arg3.IsWhole) (arg4 : Memref sig .tc .vmem S257x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S1x8x512 .f32) (harg10 : arg10.IsWhole) (arg11 : Memref sig .tc .vmem S1x8x512 .f32) (harg11 : arg11.IsWhole) (c1 c2 : FVec F S8x512 .f32) (s : FVec F S8x512 .f32) (p : IVec S8x512 32) :
    tail (F := F) i arg1 harg1 arg2 harg2 arg3 harg3 arg4 harg4 arg5 harg5 arg6 harg6 arg7 harg7 arg8 harg8 arg9 harg9 arg10 harg10 arg11 harg11 ident maskM lengthM weights c1 c2 (before c1) (before c2) 0#1 s p
      = stores i arg1 harg1 arg2 harg2 arg3 harg3 arg4 harg4 arg5 harg5 arg6 harg6 arg7 harg7 arg8 harg8 arg9 harg9 arg10 harg10 arg11 harg11 (asBlock (subf (broadcastTo S8x512 weights broadcasts_S1x512_S8x512) (subf c1 (before c1))))
        (asBlock (scatterBy (reversed p) (subf s (isotonic c2 (before c2))))) := by sl_kernel_rfl

/-- The tail at the branch condition `1`. -/
theorem tail_full (i : grid0.Coords) (arg1 : Memref sig .tc .vmem S1x8x128 .f32) (harg1 : arg1.IsWhole) (arg2 : Memref sig .tc .vmem S8x512x128 .f32) (harg2 : arg2.IsWhole) (arg3 : Memref sig .tc .vmem S1x8x512 .f32) (harg3 : arg3.IsWhole) (arg4 : Memref sig .tc .vmem S257x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S1x8x512 .f32) (harg10 : arg10.IsWhole) (arg11 : Memref sig .tc .vmem S1x8x512 .f32) (harg11 : arg11.IsWhole) (c1 c2 : FVec F S8x512 .f32) (s : FVec F S8x512 .f32) (p : IVec S8x512 32) :
    tail (F := F) i arg1 harg1 arg2 harg2 arg3 harg3 arg4 harg4 arg5 harg5 arg6 harg6 arg7 harg7 arg8 harg8 arg9 harg9 arg10 harg10 arg11 harg11 ident maskM lengthM weights c1 c2 (before c1) (before c2) 1#1 s p
      = stores i arg1 harg1 arg2 harg2 arg3 harg3 arg4 harg4 arg5 harg5 arg6 harg6 arg7 harg7 arg8 harg8 arg9 harg9 arg10 harg10 arg11 harg11 (asBlock (subf (broadcastTo S8x512 weights broadcasts_S1x512_S8x512) (isotonic c1 (before c1))))
        (asBlock (scatterBy (reversed p) (subf s (isotonic c2 (before c2))))) := by sl_kernel_rfl

end Cert.SoftSort

end
-- ==== Proof.Frame.lean ====
/-
  The kernel's run: every launch ends, the arguments and the semaphores are as they were, and each grid step leaves in
  the two results' blocks the values `Cert.SoftSort` names, computed from the step's input blocks.
-/
module

public import proofs.«01_k».proof.Proof.Body
public import proofs.«01_k».proof.Proof.Gen.KernelIdeal.Frame
public import Idealize.ShloMosaic.Lib.Pipeline.Value
public import Idealize.ShloMosaic.Lib.Tactic
public import Idealize.ShloMosaic.Lib.Quiescent

@[expose] public section

noncomputable section

namespace Cert.SoftSort

open Cert.KernelIdeal Cert.KernelIdeal.Facts₀ Cert.KernelIdeal.Facts Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- No variant is counted. -/
abbrev noVariants : Variants := Variants.none

/-- Row `r` of the eight document rows. -/
def docRow (x : Vec F S8x512x128 .f32) (r : Fin 8) : Vec F S1x512x128 .f32 := fun j =>
  x (fun a => match a with
    | ⟨0, _⟩ => r
    | ⟨1, _⟩ => j 1
    | ⟨2, _⟩ => j 2)

/-- The refined scores of a grid step, from the step's nine input blocks. -/
def scores (x0 : Vec F S1x8x128 .f32) (x1 : Vec F S8x512x128 .f32) (x2 : Vec F S1x8x512 .f32) (x3 : Vec F S257x64 .f32) (x4 : Vec F S1x64 .f32) (x5 : Vec F S64x64 .f32) (x6 : Vec F S1x64 .f32) (x7 : Vec F S1x64 .f32) (x8 : Vec F S1x1 .f32) : FVec F S8x512 .f32 :=
  refined (layers (features x0 (docRow x1) x2) x3 x4 x5 x6) (fun _ => x7) x8

/-- The soft sort of a block of scores. -/
def sorted (x : FVec F S8x512 .f32) : FVec F S1x8x512 .f32 := if violated x = 0#1 then sortCheap x else sortFull x

/-- The tail of the body stores the two results. -/
theorem tail_eq (i : grid0.Coords) (arg1 : Memref sig .tc .vmem S1x8x128 .f32) (harg1 : arg1.IsWhole) (arg2 : Memref sig .tc .vmem S8x512x128 .f32) (harg2 : arg2.IsWhole) (arg3 : Memref sig .tc .vmem S1x8x512 .f32) (harg3 : arg3.IsWhole) (arg4 : Memref sig .tc .vmem S257x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S1x8x512 .f32) (harg10 : arg10.IsWhole) (arg11 : Memref sig .tc .vmem S1x8x512 .f32) (harg11 : arg11.IsWhole) (x : FVec F S8x512 .f32) :
    tail i arg1 harg1 arg2 harg2 arg3 harg3 arg4 harg4 arg5 harg5 arg6 harg6 arg7 harg7 arg8 harg8 arg9 harg9 arg10 harg10 arg11 harg11 ident maskM lengthM weights (sums1 x) (sums2 x) (before (sums1 x)) (before (sums2 x)) (violated x) (rankScores x)
        (sortDesc x).2
      = stores i arg1 harg1 arg2 harg2 arg3 harg3 arg4 harg4 arg5 harg5 arg6 harg6 arg7 harg7 arg8 harg8 arg9 harg9 arg10 harg10 arg11 harg11 (sorted x) (ranks x) := by
  by_cases h : violated x = 0#1
  · rw [h, tail_cheap, sorted, if_pos h]; rfl
  · rw [(show violated x = 1#1 by revert h; generalize violated x = b; revert b; decide), tail_full, sorted, if_neg h]; rfl

theorem zero2 : (![0, 0] : Fin 2 → Nat) = fun _ => 0 := funext fun a => by fin_cases a <;> rfl
theorem zero3 : (![0, 0, 0] : Fin 3 → Nat) = fun _ => 0 := funext fun a => by fin_cases a <;> rfl

/-- Every position of a result's block lies in the rectangle the body stores through. -/
theorem mem_whole (y : S1x8x512.Idx) :
    y ∈ (Rect.unit (s := S1x8x512) ![0, 0, 0] S1x8x512.size Gen.inb_S1x8x512_S1x8x512_0_0_0).set := by
  rw [Rect.mem_set_unit]
  intro a
  have := (y a).isLt
  fin_cases a <;> simpa using this

/-- One row read through its own rectangle. -/
theorem row_eq (x : Vec F S8x512x128 .f32) (r : Fin 8) (off : Fin 3 → Nat) (h : off = ![r.val, 0, 0])
    (inb : ∀ a, off a + S1x512x128.size a ≤ S8x512x128.size a) : View.ld x (Rect.unit off S1x512x128.size inb) = docRow x r := by
  subst h
  funext j
  refine congrArg x (funext fun a => Fin.ext ?_)
  have h0 : (j 0).val = 0 := by have : (j 0).val < 1 := (j 0).isLt; omega
  match a with
  | ⟨0, _⟩ => show r.val + 1 * (j 0).val = r.val; omega
  | ⟨1, _⟩ => show 0 + 1 * (j 1).val = (j 1).val; omega
  | ⟨2, _⟩ => show 0 + 1 * (j 2).val = (j 2).val; omega

/-- The eight rows the body loads are the rows of the block. -/
theorem rows_eq (x : Vec F S8x512x128 .f32) :
    (![View.ld x (Rect.unit (s := S8x512x128) ![0, 0, 0] S1x512x128.size Gen.inb_S8x512x128_S1x512x128_0_0_0), View.ld x (Rect.unit (s := S8x512x128) ![1, 0, 0] S1x512x128.size Gen.inb_S8x512x128_S1x512x128_1_0_0), View.ld x (Rect.unit (s := S8x512x128) ![2, 0, 0] S1x512x128.size Gen.inb_S8x512x128_S1x512x128_2_0_0), View.ld x (Rect.unit (s := S8x512x128) ![3, 0, 0] S1x512x128.size Gen.inb_S8x512x128_S1x512x128_3_0_0), View.ld x (Rect.unit (s := S8x512x128) ![4, 0, 0] S1x512x128.size Gen.inb_S8x512x128_S1x512x128_4_0_0), View.ld x (Rect.unit (s := S8x512x128) ![5, 0, 0] S1x512x128.size Gen.inb_S8x512x128_S1x512x128_5_0_0), View.ld x (Rect.unit (s := S8x512x128) ![6, 0, 0] S1x512x128.size Gen.inb_S8x512x128_S1x512x128_6_0_0), View.ld x (Rect.unit (s := S8x512x128) ![7, 0, 0] S1x512x128.size Gen.inb_S8x512x128_S1x512x128_7_0_0)] : Fin 8 → Vec F S1x512x128 .f32) = docRow x := by
  rw [row_eq x 0 ![0, 0, 0] rfl, row_eq x 1 ![1, 0, 0] rfl, row_eq x 2 ![2, 0, 0] rfl, row_eq x 3 ![3, 0, 0] rfl, row_eq x 4 ![4, 0, 0] rfl, row_eq x 5 ![5, 0, 0] rfl, row_eq x 6 ![6, 0, 0] rfl, row_eq x 7 ![7, 0, 0] rfl]
  funext r
  fin_cases r <;> rfl

/-- The same vector eight times. -/
theorem same_eq {α : Type} (x : α) : (![x, x, x, x, x, x, x, x] : Fin 8 → α) = fun _ => x := by
  funext r
  fin_cases r <;> rfl

set_option maxHeartbeats 1600000 in
/-- The body's loads read the blocks and leave them. -/
theorem loads_run (c : Dev nD) (i : grid0.Coords) (arg1 : Memref sig .tc .vmem S1x8x128 .f32) (harg1 : arg1.IsWhole) (arg2 : Memref sig .tc .vmem S8x512x128 .f32) (harg2 : arg2.IsWhole) (arg3 : Memref sig .tc .vmem S1x8x512 .f32) (harg3 : arg3.IsWhole) (arg4 : Memref sig .tc .vmem S257x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S1x8x512 .f32) (harg10 : arg10.IsWhole) (arg11 : Memref sig .tc .vmem S1x8x512 .f32) (harg11 : arg11.IsWhole) (x0 : Vec F S1x8x128 .f32) (x1 : Vec F S8x512x128 .f32) (x2 : Vec F S1x8x512 .f32) (x3 : Vec F S257x64 .f32) (x4 : Vec F S1x64 .f32) (x5 : Vec F S64x64 .f32) (x6 : Vec F S1x64 .f32) (x7 : Vec F S1x64 .f32) (x8 : Vec F S1x1 .f32)
    (k : FVec F S8x512 .f32 → Prog (TpuEff nD τ sig (Elt F) Λ₀ .tc) PUnit) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8) -∗ wp frame (wpE (defs₀ (F := F)) noVariants c none) E (k (scores x0 x1 x2 x3 x4 x5 x6 x7 x8)) K))
      ⊢ wp frame (wpE (defs₀ (F := F)) noVariants c none) E (loads i arg1 harg1 arg2 harg2 arg3 harg3 arg4 harg4 arg5 harg5 arg6 harg6 arg7 harg7 arg8 harg8 arg9 harg9 arg10 harg10 arg11 harg11 k) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  unfold loads
  sl_exec!
  ihave Hw := Hk $$ [H0 H1 H2 H3 H4 H5 H6 H7 H8]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; isplitr; · ipureintro; exact harg9.read_unread _
    iexact H8
  simp only [View.readAt_eq_ld, harg1.read_unread, harg2.read_unread, harg3.read_unread, harg4.read_unread, harg5.read_unread, harg6.read_unread, harg7.read_unread, harg8.read_unread, harg9.read_unread, View.ld_unit_zero (S := S1x8x128) zero3,
    View.ld_unit_zero (S := S1x8x512) zero3, View.ld_unit_zero (S := S257x64) zero2, View.ld_unit_zero (S := S1x64) zero2,
    View.ld_unit_zero (S := S64x64) zero2, View.ld_unit_zero (S := S1x1) zero2]
  rw [rows_eq, same_eq]
  iexact Hw

/-- The body's stores leave the two results. -/
theorem stores_run (c : Dev nD) (i : grid0.Coords) (arg1 : Memref sig .tc .vmem S1x8x128 .f32) (harg1 : arg1.IsWhole) (arg2 : Memref sig .tc .vmem S8x512x128 .f32) (harg2 : arg2.IsWhole) (arg3 : Memref sig .tc .vmem S1x8x512 .f32) (harg3 : arg3.IsWhole) (arg4 : Memref sig .tc .vmem S257x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S1x8x512 .f32) (harg10 : arg10.IsWhole) (arg11 : Memref sig .tc .vmem S1x8x512 .f32) (harg11 : arg11.IsWhole)
    (a b : Vec F S1x8x512 .f32) (E : Set ℕ) (K : PUnit → sProp 𝕄) :
    iprop((∃ d, owns (c : Thread nD τ) arg10 fullShare d) ∗ (∃ d, owns (c : Thread nD τ) arg11 fullShare d)
        ∗ (iprop(owns (c : Thread nD τ) arg10 fullShare a ∗ owns (c : Thread nD τ) arg11 fullShare b) -∗ K ⟨⟩))
      ⊢ wp frame (wpE (defs₀ (F := F)) noVariants c none) E (stores i arg1 harg1 arg2 harg2 arg3 harg3 arg4 harg4 arg5 harg5 arg6 harg6 arg7 harg7 arg8 harg8 arg9 harg9 arg10 harg10 arg11 harg11 a b) K := by
  unfold owns
  iintro ⟨⟨%d1, %f1, -, H1⟩, ⟨%d2, %f2, -, H2⟩, Hk⟩
  unfold stores
  sl_exec!
  sl_step
  iapply Hk
  isplitl [H1]
  · iexists _; isplitr; swap; · iexact H1
    ipureintro
    sl_unfold_words
    refine (View.read_writes_eq_canon (Val := Elt F) _ _ _ ?_).trans ?_; swap
    · exact View.canon_unit_zero (S := S1x8x512) zero3 _ _
    · exact fun y => ⟨_, List.mem_singleton.mpr rfl, mem_whole y⟩
  · iexists _; isplitr; swap; · iexact H2
    ipureintro
    sl_unfold_words
    refine (View.read_writes_eq_canon (Val := Elt F) _ _ _ ?_).trans ?_; swap
    · exact View.canon_unit_zero (S := S1x8x512) zero3 _ _
    · exact fun y => ⟨_, List.mem_singleton.mpr rfl, mem_whole y⟩

variable (m : (ℓ : Loc nD τ sig) → Buf (Elt F) ℓ) (ρ : Dev nD → PrngReg)

/-- The refined scores of grid step `t` on core `c`. -/
def stepScores (c : Dev nD) (t : Fin cfg0.N) : FVec F S8x512 .f32 :=
  scores (iblk m c 0 t) (iblk m c 1 t) (iblk m c 2 t) (iblk m c 3 t) (iblk m c 4 t) (iblk m c 5 t) (iblk m c 6 t) (iblk m c 7 t) (iblk m c 8 t)

/-- The pipeline's proof data: an input's buffer keeps its block, the two results' end at their values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => sorted (stepScores m c t)
    | ⟨10, _⟩ => ranks (stepScores m c t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = sorted (stepScores m c t) := by dsimp only [dats]
theorem after_10 (c : Dev nD) (t : Fin cfg0.N) : (dats m 0 c).after 10 t = ranks (stepScores m c t) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d

set_option maxHeartbeats 3200000 in
/-- The body on one grid step: the inputs' blocks read and kept, the two results written. -/
theorem body_obligation (c : Dev nD) : BodyObligation (dats (F := F) m 0 c) (defs₀ (F := F)) noVariants () Set.univ := fun t => by
  rw [bigSep_W0, bigSep_W0]
  sl_whnfR [defs₀, Defs.onTc]
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl, after_0, after_1, after_2, after_3, after_4, after_5, after_6, after_7, after_8, after_9, after_10, body_eq]
  simp only [tail_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (loads_run c _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  iapply (stores_run c _ _ _ _ _ _ _ _ _ _ _ _ _ _ _ _ _ _ _ _ _ _ _ _ _ Set.univ _)
  isplitl [H9]; · iexists _; iexact H9
  isplitl [H10]; · iexists _; iexact H10
  iintro ⟨H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option backward.isDefEq.respectTransparency.types false in
/-- Every launch ends, nothing faults, the arrays end at what the proof data say and the semaphores at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ noVariants m ρ main
    (fun c => (body_obligation m c).loose) (fun c => (dats m 0 c).share_full fun _ => rfl)
    (fun _ _ => rfl) (V0 m) [hostOps1] sfx_sub sfx_fresh sfx_keeps (hmain m noVariants) (fun c w => A_eq m c w) (fun _ _ => rfl)

/-- Every launch ends with the arguments as they were and the semaphores at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8))
    ∧ r.2.sem = fun _ => 0) :=
  θ_run_with_sems (frame_of m ρ (dats m) (fun c w => A_eq m c w)) (run_main m ρ)

end Cert.SoftSort

end
-- ==== Proof.FrameK.lean ====
/-
  The printed kernel and its idealization are the same text, so the run of the one is the run of the other.
-/
module

public import proofs.«01_k».proof.Defs
public import proofs.«01_k».proof.Proof.Frame
public import proofs.«01_k».proof.Proof.Gen.Kernel.Frame

@[expose] public section

noncomputable section

namespace Cert.SoftSort

open Idealize.ShloMosaic Idealize.ShloMosaic.TcCoe Idealize.ShloMosaic.Tactic Idealize.SL.Sem

/-- The printed kernel's frame. -/
theorem kernel_frame : Cert.quiescent_Kernel (hKernel := Cert.Kernel.Gen.facts) := by
  have h : Cert.quiescent_Kernel (hKernel := Cert.Kernel.Gen.facts) = (∀ (m : (ℓ : Loc Cert.KernelIdeal.nD Cert.KernelIdeal.τ Cert.KernelIdeal.sig) → Buf (Elt Bits) ℓ) (ρ : Dev Cert.KernelIdeal.nD → PrngReg), True →
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)) := by sl_kernel_rfl
  rw [h]
  exact fun m ρ _ => frame m ρ

end Cert.SoftSort

end
-- ==== Proof.FrameR.lean ====
/-
  The reference's run: every launch ends, and the arguments and the semaphores are as they were.
-/
module

public import proofs.«01_k».proof.Defs
public import proofs.«01_k».proof.Proof.Gen.ReferenceIdeal
public import proofs.«01_k».proof.Proof.Gen.ReferenceIdeal.Run
public import Idealize.ShloMosaic.Lib.Quiescent
public import Idealize.ShloMosaic.Lib.StableHlo.RunHlo

@[expose] public section

noncomputable section

namespace Cert.SoftSort

open Idealize.ShloMosaic Idealize.ShloMosaic.TcCoe Idealize.SL.Sem

/-- The reference's frame. -/
theorem reference_frame : Cert.quiescent_ReferenceIdeal (hReferenceIdeal := Cert.ReferenceIdeal.Gen.facts) := fun m ρ _ =>
  θ_run_mono (Cert.ReferenceIdeal.Value.run m ρ) fun _ h => ⟨fun c => (h c).2.2, sem_eq_zero_of_no_sems rfl _⟩

end Cert.SoftSort

end
-- ==== Proof.Lanes.lean ====
/-
  The kernel's lane masks and rotations, one row and one lane at a time: which lanes lie in an even block, where a rotation
  reads, and that the partner of a lane at distance `2 ^ s` is the lane with bit `s` flipped.
-/
module

public import proofs.«01_k».proof.Proof.Model
public import Idealize.ShloMosaic.Lib.SortNet.Sorts
public import Idealize.ShloMosaic.Lib.SortNet.Keyed
public import Idealize.ShloMosaic.Lib.ValueIdxCore
public import Idealize.ShloMosaic.Lib.Pointwise.Index
public import Idealize.ShloMosaic.Lib.ValueLayout
public import Idealize.ShloMosaic.Lib.Pipeline.Value

@[expose] public section

noncomputable section

namespace Cert.SoftSort

open Cert.KernelIdeal Cert.KernelIdeal.Facts₀ Cert.KernelIdeal.Facts
open Idealize.ShloMosaic Idealize.SL.Sem Idealize.ShloMosaic.SortNet
open Idealize.ShloMosaic.ValueIdx hiding ix1 ix2 ix3 eq_ix1 eq_ix2 eq_ix3

variable {F : FTy → Type} [FloatOps F]

/-! ## Rotations and concatenations of two pieces along the lanes -/

/-- Two pieces side by side, read at a lane. -/
theorem concat_lanes {α : Type} {R a b n : Nat} (x : (⟨2, ![R, a]⟩ : Shape).Idx → α) (y : (⟨2, ![R, b]⟩ : Shape).Idx → α)
    (h : Shape.Concatenates [⟨2, ![R, a]⟩, ⟨2, ![R, b]⟩] ⟨2, ![R, n]⟩ 1) (r : Fin R) (l : Fin n) (hab : n = a + b) :
    concatenate ⟨2, ![R, n]⟩ 1 [⟨⟨2, ![R, a]⟩, x⟩, ⟨⟨2, ![R, b]⟩, y⟩] h (ix2 r l)
      = if hl : l.val < a then x (ix2 r ⟨l.val, hl⟩) else y (ix2 r ⟨l.val - a, by have := l.isLt; omega⟩) := by
  by_cases hl : l.val < a
  · rw [dif_pos hl]
    exact concatenate_pair_apply_left (t := ⟨2, ![R, n]⟩) 1 x y h (ix2 r l) rfl (ix2 r ⟨l.val, hl⟩) (fun b => by
      match b with
      | 0 => rfl
      | 1 => rfl)
  · rw [dif_neg hl]
    refine concatenate_pair_apply_right (t := ⟨2, ![R, n]⟩) 1 x y h (ix2 r l) rfl rfl (ix2 r ⟨l.val - a, by have := l.isLt; omega⟩)
      (fun b hb => by
        match b with
        | 0 => rfl
        | 1 => exact absurd rfl hb) ?_
    show l.val - a + a = l.val
    omega

/-- Two pieces one above the other, read at a row. -/
theorem concat_rows {α : Type} {A B R n : Nat} (x : (⟨2, ![A, n]⟩ : Shape).Idx → α) (y : (⟨2, ![B, n]⟩ : Shape).Idx → α)
    (h : Shape.Concatenates [⟨2, ![A, n]⟩, ⟨2, ![B, n]⟩] ⟨2, ![R, n]⟩ 0) (r : Fin R) (l : Fin n) (hab : R = A + B) :
    concatenate ⟨2, ![R, n]⟩ 0 [⟨⟨2, ![A, n]⟩, x⟩, ⟨⟨2, ![B, n]⟩, y⟩] h (ix2 r l)
      = if hr : r.val < A then x (ix2 ⟨r.val, hr⟩ l) else y (ix2 ⟨r.val - A, by have := r.isLt; omega⟩ l) := by
  by_cases hl : r.val < A
  · rw [dif_pos hl]
    exact concatenate_pair_apply_left (t := ⟨2, ![R, n]⟩) 0 x y h (ix2 r l) rfl (ix2 ⟨r.val, hl⟩ l) (fun b => by
      match b with
      | 0 => rfl
      | 1 => rfl)
  · rw [dif_neg hl]
    refine concatenate_pair_apply_right (t := ⟨2, ![R, n]⟩) 0 x y h (ix2 r l) rfl rfl (ix2 ⟨r.val - A, by have := r.isLt; omega⟩ l)
      (fun b hb => by
        match b with
        | 0 => exact absurd rfl hb
        | 1 => rfl) ?_
    show r.val - A + A = r.val
    omega

/-- A slice of a matrix, read at an index. -/
theorem slice_at {α : Type} {R n R' n' a b : Nat} (x : (⟨2, ![R, n]⟩ : Shape).Idx → α)
    (h : (⟨2, ![R, n]⟩ : Shape).Slices ![a, b] ⟨2, ![R', n']⟩) (r : Fin R') (l : Fin n') (hr : a + r.val < R) (hl : b + l.val < n) :
    extractStridedSlice ⟨2, ![R', n']⟩ ![a, b] x h (ix2 r l) = x (ix2 ⟨a + r.val, hr⟩ ⟨b + l.val, hl⟩) :=
  extractStridedSlice_apply _ _ _ _ _ (fun c => by
    match c with
    | 0 => rfl
    | 1 => rfl)

theorem rollL_at {α : Type} (R j : Nat) (hj : j ≤ 512) (x : (⟨2, ![R, 512]⟩ : Shape).Idx → α) (r : Fin R) (l : Fin 512) :
    rollL R j hj x (ix2 r l) = x (ix2 r ⟨(l.val + j) % 512, Nat.mod_lt _ (by decide)⟩) := by
  unfold rollL
  rw [concat_lanes _ _ _ _ _ (by omega)]
  split_ifs with h
  · rw [slice_at _ _ _ _ (by have := r.isLt; omega) (by show j + l.val < 512; omega)]
    congr 2
    · exact Fin.ext (by show 0 + r.val = r.val; omega)
    · refine Fin.ext ?_
      show j + l.val = (l.val + j) % 512
      rw [Nat.mod_eq_of_lt (by omega)]; omega
  · have hl := l.isLt
    rw [slice_at _ _ _ _ (by have := r.isLt; omega) (by show 0 + (l.val - (512 - j)) < 512; omega)]
    congr 2
    · exact Fin.ext (by show 0 + r.val = r.val; omega)
    · refine Fin.ext ?_
      show 0 + (l.val - (512 - j)) = (l.val + j) % 512
      rcases Nat.eq_or_lt_of_le hj with rfl | hlt
      · rw [Nat.add_mod_right, Nat.mod_eq_of_lt hl]; omega
      · rw [Nat.mod_eq_sub_mod (by omega), Nat.mod_eq_of_lt (by omega)]; omega

theorem rollR_at {α : Type} (R j : Nat) (hj : j ≤ 512) (x : (⟨2, ![R, 512]⟩ : Shape).Idx → α) (r : Fin R) (l : Fin 512) :
    rollR R j hj x (ix2 r l) = x (ix2 r ⟨(l.val + (512 - j)) % 512, Nat.mod_lt _ (by decide)⟩) := by
  have hl := l.isLt
  unfold rollR
  rw [concat_lanes _ _ _ _ _ (by omega)]
  split_ifs with h
  · rw [slice_at _ _ _ _ (by have := r.isLt; omega) (by show 512 - j + l.val < 512; omega)]
    congr 2
    · exact Fin.ext (by show 0 + r.val = r.val; omega)
    · refine Fin.ext ?_
      show 512 - j + l.val = (l.val + (512 - j)) % 512
      rw [Nat.mod_eq_of_lt (by omega)]; omega
  · rw [slice_at _ _ _ _ (by have := r.isLt; omega) (by show 0 + (l.val - j) < 512; omega)]
    congr 2
    · exact Fin.ext (by show 0 + r.val = r.val; omega)
    · refine Fin.ext ?_
      show 0 + (l.val - j) = (l.val + (512 - j)) % 512
      rcases Nat.eq_zero_or_pos j with rfl | hlt
      · rw [show l.val + (512 - 0) = l.val + 512 by omega, Nat.add_mod_right, Nat.mod_eq_of_lt hl]; omega
      · rw [Nat.mod_eq_sub_mod (by omega), Nat.mod_eq_of_lt (by omega)]; omega

/-! ## Masks -/

section
variable [Facts]

theorem onRows_at (m : IVec S1x512 1) (r : Fin 8) (l : Fin 512) : onRows m (ix2 r l) = m (ix2 0 l) :=
  broadcastTo_1b_ab_apply m _ r l

theorem onRows16_at (m : IVec S1x512 1) (r : Fin 16) (l : Fin 512) : onRows16 m (ix2 r l) = m (ix2 0 l) := by
  unfold onRows16
  rw [shapeCast_self]
  exact broadcastTo_1b_ab_apply m _ r l

/-- The floor quotient of two words. -/
def floorDivW (l c : BitVec 32) : BitVec 32 :=
  if (IntOp.cmpi .ne ((IntOp.cmpi .sgt l 0#32).setWidth 32 - (IntOp.cmpi .slt l 0#32).setWidth 32)
        (Scalar.subi (Scalar.extui (Scalar.cmpi .sgt c 0#32)) (Scalar.extui (Scalar.cmpi .slt c 0#32)))
      &&& IntOp.cmpi .ne (IntOp.remsi .vector l c) 0#32) = 1#1
  then IntOp.divsi .vector l c - 1#32 else IntOp.divsi .vector l c

/-- The floor remainder of two words. -/
def floorModW (x c : BitVec 32) : BitVec 32 :=
  if ((IntOp.cmpi .slt (IntOp.remsi .vector x (modulus c)) 0#32 ^^^ Scalar.cmpi .slt (modulus c) 0#32)
      &&& IntOp.cmpi .ne (IntOp.remsi .vector x (modulus c)) 0#32) = 1#1
  then IntOp.remsi .vector x (modulus c) + modulus c else IntOp.remsi .vector x (modulus c)

/-- Whether a lane lies in an even block of `c` lanes, as a word of one bit. -/
def evenW (l c : BitVec 32) : BitVec 1 := IntOp.cmpi .eq (floorModW (floorDivW l c) 2#32) 0#32

theorem evenBlock_word (c : BitVec 32) (l : Fin 512) : evenBlock c (ix2 0 l) = evenW (BitVec.ofNat 32 (0 * 512 + l.val)) c := rfl

theorem evenW_eq : ∀ (s : Fin 10) (l : Fin 512),
    evenW (BitVec.ofNat 32 (0 * 512 + l.val)) (BitVec.ofNat 32 (2 ^ s.val)) = BitVec.ofBool (decide (l.val &&& 2 ^ s.val = 0)) := by
  decide +kernel

theorem evenBlock_at (s : Fin 10) (l : Fin 512) :
    evenBlock (BitVec.ofNat 32 (2 ^ s.val)) (ix2 0 l) = BitVec.ofBool (decide (l.val &&& 2 ^ s.val = 0)) := by
  rw [evenBlock_word, evenW_eq]

/-- The lane number as a word. -/
theorem lane_at (l : Fin 512) : lane (ix2 0 l) = BitVec.ofNat 32 l.val :=
  congrArg (BitVec.ofNat 32) (by show 0 * 512 + l.val = l.val; omega)

/-- The partner of a lane at distance `2 ^ s` is read. -/
theorem partnerOf_at {α : Type} (s : Fin 9) (x : S8x512.Idx → α) (r : Fin 8) (l : Fin 512) :
    partnerOf s x (ix2 r l) = x (ix2 r (partner 9 s.val l)) := by
  have hl := l.isLt
  have he := evenBlock_at ⟨s.val, by have := s.isLt; omega⟩ l
  show (if onRows _ (ix2 r l) = 1#1 then rollL 8 (2 ^ s.val) (pow_le s) x (ix2 r l) else rollR 8 (2 ^ s.val) (pow_le s) x (ix2 r l)) = _
  rw [onRows_at, shapeCast_self, he, rollL_at, rollR_at]
  have hp := pow_le s
  by_cases hb : l.val &&& 2 ^ s.val = 0
  · rw [if_pos (by simp [hb])]
    have := partner_val_of_clear s.isLt l hb
    have hlt := (partner 9 s.val l).isLt
    refine congrArg (fun k => x (ix2 r k)) (Fin.ext ?_)
    show (l.val + 2 ^ s.val) % 512 = (partner 9 s.val l).val
    rw [this, Nat.mod_eq_of_lt (this ▸ hlt)]
  · rw [if_neg (by simp [hb])]
    have hset := partner_val_of_set s.isLt l hb
    refine congrArg (fun k => x (ix2 r k)) (Fin.ext ?_)
    show (l.val + (512 - 2 ^ s.val)) % 512 = (partner 9 s.val l).val
    have hpos : 0 < 2 ^ s.val := Nat.two_pow_pos _
    have hge := hset.1
    rw [hset.2, Nat.mod_eq_sub_mod (by omega), Nat.mod_eq_of_lt (by omega)]
    omega

/-- The lane that wants the winner: the direction of the merge says which of the two. -/
theorem want_at (l s : Fin 9) (i : Fin 512) :
    want l s (ix2 0 i)
      = BitVec.ofBool (decide (i.val &&& 2 ^ s.val = 0) == decide (i.val &&& 2 ^ (l.val + 1) = 0)) := by
  have h1 := evenBlock_at ⟨s.val, by have := s.isLt; omega⟩ i
  have h2 := evenBlock_at ⟨l.val + 1, by have := l.isLt; omega⟩ i
  show (evenBlock _ (ix2 0 i) ^^^ evenBlock _ (ix2 0 i)) ^^^ 1#1 = _
  rw [h1, h2]
  show (BitVec.ofBool (decide (i.val &&& 2 ^ s.val = 0)) ^^^ BitVec.ofBool (decide (i.val &&& 2 ^ (l.val + 1) = 0))) ^^^ 1#1 = _
  generalize decide (i.val &&& 2 ^ s.val = 0) = a
  generalize decide (i.val &&& 2 ^ (l.val + 1) = 0) = b
  cases a <;> cases b <;> rfl

/-- A lane keeps its own entry where it wants the winner and wins, or wants the loser and loses. -/
theorem keep_at (l s : Fin 9) (win lose : IVec S8x512 1) (r : Fin 8) (i : Fin 512) (w z : Bool)
    (hw : win (ix2 r i) = BitVec.ofBool w) (hz : lose (ix2 r i) = BitVec.ofBool z) :
    keep l s win lose (ix2 r i)
      = BitVec.ofBool (if decide (i.val &&& 2 ^ s.val = 0) == decide (i.val &&& 2 ^ (l.val + 1) = 0) then w else z) := by
  show (onRows _ (ix2 r i) &&& win (ix2 r i)) ||| (onRows _ (ix2 r i) &&& lose (ix2 r i)) = _
  rw [onRows_at, onRows_at, hw, hz]
  show (want l s (ix2 0 i) &&& _) ||| ((want l s (ix2 0 i) ^^^ 1#1) &&& _) = _
  rw [want_at]
  generalize (decide (i.val &&& 2 ^ s.val = 0) == decide (i.val &&& 2 ^ (l.val + 1) = 0)) = a
  cases a <;> cases w <;> cases z <;> rfl

end

end Cert.SoftSort

end
-- ==== Proof.Sorting.lean ====
/-
  The two bitonic sorts, one row at a time. The descending sort of the scores puts the scores in descending order and names
  the lane each came from; the ascending sort of lane numbers moves every value to the lane its key names.
-/
module

public import proofs.«01_k».proof.Proof.Lanes
public import Idealize.ShloMosaic.PureOps.Ideal

@[expose] public section

noncomputable section

namespace Cert.SoftSort

open Cert.KernelIdeal Cert.KernelIdeal.Facts₀ Cert.KernelIdeal.Facts
open Idealize.ShloMosaic Idealize.SL.Sem Idealize.ShloMosaic.SortNet
open Idealize.ShloMosaic.ValueIdx hiding ix1 ix2 ix3 eq_ix1 eq_ix2 eq_ix3

/-- Whether bit `s` of a lane and bit `l + 1` are both clear or both set. -/
def alike (l s : Fin 9) (i : Fin 512) : Bool := decide (i.val &&& 2 ^ s.val = 0) == decide (i.val &&& 2 ^ (l.val + 1) = 0)

/-- The partner differs in bit `s` alone. -/
theorem alike_partner : ∀ (l s : Fin 9), s ≤ l → ∀ i : Fin 512, alike l s (partner 9 s.val i) = !alike l s i := by
  decide +kernel

/-- The network's stage in merge `l` at distance `2 ^ s`. -/
def netStage (desc : Bool) (ls : Fin 9 × Fin 9) : Network (2 ^ 9) :=
  stage 9 ls.2.val fun i => decide (i.val &&& 2 ^ (ls.1.val + 1) = 0) == desc

theorem sortNet_stages (desc : Bool) : sortNet 9 desc = stages.flatMap (netStage desc) := by
  have h : (List.range 9).flatMap (fun l => (List.range (l + 1)).reverse.map fun s => (l, s))
      = stages.map fun p => (p.1.val, p.2.val) := by decide
  have h' : sortNet 9 desc = ((List.range 9).flatMap (fun l => (List.range (l + 1)).reverse.map fun s => (l, s))).flatMap
      fun p : ℕ × ℕ => stage 9 p.2 fun i => decide (i.val &&& 2 ^ (p.1 + 1) = 0) == desc := by
    rw [List.flatMap_assoc]
    simp only [List.flatMap_map]
    rfl
  rw [h', h, List.flatMap_map]
  rfl

section Row
variable {α : Type} [LinearOrder α]

/-- Whether a lane keeps its entry in a stage, off the keys. -/
def keeps (desc : Bool) (l s : Fin 9) (v : Fin 512 → α) (i : Fin 512) : Bool :=
  if alike l s i == desc then decide (v (partner 9 s.val i) ≤ v i) else decide (v i ≤ v (partner 9 s.val i))

theorem stage_row (desc : Bool) (l s : Fin 9) (h : s ≤ l) (v : Fin 512 → α) :
    (fun i => if keeps desc l s v i then v i else v (partner 9 s.val i)) = Network.apply (netStage desc (l, s)) v := by
  have hk : ∀ j : Fin 512, (alike l s (partner 9 s.val j) == desc) = !(alike l s j == desc) := by
    intro j
    rw [alike_partner l s h]
    generalize alike l s j = a
    cases a <;> cases desc <;> rfl
  have e : netStage desc (l, s) = stage 9 s.val fun i => alike l s i == desc := by
    refine stage_congr fun i hi => ?_
    have hi' : decide (i.val &&& 2 ^ s.val = 0) = true := decide_eq_true hi
    show _ = ((decide (i.val &&& 2 ^ s.val = 0) == decide (i.val &&& 2 ^ (l.val + 1) = 0)) == desc)
    rw [hi', Bool.true_beq]
  funext i
  rw [e, apply_stage_select s.isLt _ hk v i]
  unfold keeps
  generalize partner 9 s.val i = j
  generalize (alike l s i == desc) = b
  cases b
  · by_cases h1 : v i ≤ v j
    · simp [h1]
    · have h2 := not_le.mp h1
      simp [h1, h2]
  · rcases lt_trichotomy (v j) (v i) with h1 | h1 | h1
    · simp [h1, h1.le]
    · simp [h1]
    · simp [not_le.mpr h1, not_lt.mpr h1.le]

theorem source_perm (desc : Bool) (l s : Fin 9) (h : s ≤ l) (v : Fin 512 → α) :
    ∃ σ : Equiv.Perm (Fin 512), ∀ i, (if keeps desc l s v i then i else partner 9 s.val i) = σ i := by
  have hpp : ∀ j : Fin 512, partner 9 s.val (partner 9 s.val j) = j := fun j => partner_partner s.isLt j
  have hk : ∀ i : Fin 512, keeps desc l s v (partner 9 s.val i) = keeps desc l s v i := by
    intro i
    unfold keeps
    rw [hpp, alike_partner l s h]
    generalize alike l s i = a
    cases a <;> cases desc <;> rfl
  refine ⟨Function.Involutive.toPerm (fun i => if keeps desc l s v i then i else partner 9 s.val i) fun i => ?_, fun i => rfl⟩
  show (if keeps desc l s v (if keeps desc l s v i then i else partner 9 s.val i) then _ else _) = i
  by_cases hi : keeps desc l s v i = true
  · simp only [hi, if_true]
  · rw [if_neg hi, hk, if_neg hi]
    show partner 9 s.val (if keeps desc l s v i = true then i else partner 9 s.val i) = i
    rw [if_neg hi, hpp]

variable {β γ : Type}

/-- A sequence of stages moves the entries of a row and their companions by one permutation, and the keys as the network does. -/
theorem fold_row (desc : Bool) (key : β → α)
    (step : (S8x512.Idx → β) × (S8x512.Idx → γ) → Fin 9 × Fin 9 → (S8x512.Idx → β) × (S8x512.Idx → γ))
    (hstep : ∀ p ls r i,
      ((step p ls).1 (ix2 r i) = if keeps desc ls.1 ls.2 (fun i => key (p.1 (ix2 r i))) i then p.1 (ix2 r i)
        else p.1 (ix2 r (partner 9 ls.2.val i)))
      ∧ ((step p ls).2 (ix2 r i) = if keeps desc ls.1 ls.2 (fun i => key (p.1 (ix2 r i))) i then p.2 (ix2 r i)
        else p.2 (ix2 r (partner 9 ls.2.val i))))
    (r : Fin 8) (L : List (Fin 9 × Fin 9)) (hL : ∀ ls ∈ L, ls.2 ≤ ls.1) (p : (S8x512.Idx → β) × (S8x512.Idx → γ)) :
    ∃ σ : Equiv.Perm (Fin 512),
      (∀ i, (L.foldl step p).1 (ix2 r i) = p.1 (ix2 r (σ i)) ∧ (L.foldl step p).2 (ix2 r i) = p.2 (ix2 r (σ i)))
      ∧ (fun i => key ((L.foldl step p).1 (ix2 r i))) = Network.apply (L.flatMap (netStage desc)) (fun i => key (p.1 (ix2 r i))) := by
  induction L generalizing p with
  | nil => exact ⟨Equiv.refl _, fun i => ⟨rfl, rfl⟩, rfl⟩
  | cons ls L ih =>
    obtain ⟨τ, h1, h2⟩ := ih (fun a ha => hL a (List.mem_cons_of_mem _ ha)) (step p ls)
    have hls := hL ls List.mem_cons_self
    obtain ⟨σ, hσ⟩ := source_perm desc ls.1 ls.2 hls (fun i => key (p.1 (ix2 r i)))
    have e1 : ∀ i, (step p ls).1 (ix2 r i) = p.1 (ix2 r (σ i)) := fun i => by
      rw [(hstep p ls r i).1, ← hσ]; split_ifs <;> rfl
    have e2 : ∀ i, (step p ls).2 (ix2 r i) = p.2 (ix2 r (σ i)) := fun i => by
      rw [(hstep p ls r i).2, ← hσ]; split_ifs <;> rfl
    refine ⟨τ.trans σ, fun i => ⟨?_, ?_⟩, ?_⟩
    · rw [List.foldl_cons, (h1 i).1, e1]; rfl
    · rw [List.foldl_cons, (h1 i).2, e2]; rfl
    · rw [List.foldl_cons, h2, List.flatMap_cons, Network.apply_append, ← stage_row desc ls.1 ls.2 hls]
      congr 1
      funext i
      show key ((step p ls).1 (ix2 r i)) = if keeps desc ls.1 ls.2 (fun i => key (p.1 (ix2 r i))) i then _ else _
      rw [(hstep p ls r i).1]
      exact apply_ite key _ _ _

end Row

theorem stages_le : ∀ ls ∈ stages, ls.2 ≤ ls.1 := by decide

section
variable [Facts]

theorem stepDesc_at (p : FVec Ideal S8x512 .f32 × IVec S8x512 32) (ls : Fin 9 × Fin 9) (r : Fin 8) (i : Fin 512) :
    ((stepDesc p ls).1 (ix2 r i) = if keeps true ls.1 ls.2 (fun i => p.1 (ix2 r i)) i then p.1 (ix2 r i)
        else p.1 (ix2 r (partner 9 ls.2.val i)))
      ∧ ((stepDesc p ls).2 (ix2 r i) = if keeps true ls.1 ls.2 (fun i => p.1 (ix2 r i)) i then p.2 (ix2 r i)
        else p.2 (ix2 r (partner 9 ls.2.val i))) := by
  have hk := keep_at ls.1 ls.2 (cmpf .oge p.1 (partnerOf ls.2 p.1)) (cmpf .ole p.1 (partnerOf ls.2 p.1)) r i
    (decide (p.1 (ix2 r (partner 9 ls.2.val i)) ≤ p.1 (ix2 r i))) (decide (p.1 (ix2 r i) ≤ p.1 (ix2 r (partner 9 ls.2.val i))))
    (by show Ideal.cmp .oge (p.1 (ix2 r i)) (partnerOf ls.2 p.1 (ix2 r i)) = _; rw [partnerOf_at]; rfl)
    (by show Ideal.cmp .ole (p.1 (ix2 r i)) (partnerOf ls.2 p.1 (ix2 r i)) = _; rw [partnerOf_at]; rfl)
  have hb : ∀ b : Bool, BitVec.ofBool b = 1#1 ↔ b = true := by decide
  have hk' : keep ls.1 ls.2 (cmpf .oge p.1 (partnerOf ls.2 p.1)) (cmpf .ole p.1 (partnerOf ls.2 p.1)) (ix2 r i)
      = BitVec.ofBool (keeps true ls.1 ls.2 (fun i => p.1 (ix2 r i)) i) := by
    rw [hk]
    unfold keeps alike
    generalize (decide (i.val &&& 2 ^ ls.2.val = 0) == decide (i.val &&& 2 ^ (ls.1.val + 1) = 0)) = a
    cases a <;> rfl
  constructor
  · show (if keep ls.1 ls.2 _ _ (ix2 r i) = 1#1 then p.1 (ix2 r i) else partnerOf ls.2 p.1 (ix2 r i)) = _
    rw [partnerOf_at, hk']
    simp only [hb]
  · show (if keep ls.1 ls.2 _ _ (ix2 r i) = 1#1 then p.2 (ix2 r i) else partnerOf ls.2 p.2 (ix2 r i)) = _
    rw [partnerOf_at, hk']
    simp only [hb]

theorem sle_word (a b : BitVec 32) : IntOp.cmpi .sle a b = BitVec.ofBool (decide (a.toInt ≤ b.toInt)) := rfl

theorem sge_word (a b : BitVec 32) : IntOp.cmpi .sge a b = BitVec.ofBool (decide (b.toInt ≤ a.toInt)) := rfl

theorem stepAsc_at (p : IVec S8x512 32 × FVec Ideal S8x512 .f32) (ls : Fin 9 × Fin 9) (r : Fin 8) (i : Fin 512) :
    ((stepAsc p ls).1 (ix2 r i) = if keeps false ls.1 ls.2 (fun i => (p.1 (ix2 r i)).toInt) i then p.1 (ix2 r i)
        else p.1 (ix2 r (partner 9 ls.2.val i)))
      ∧ ((stepAsc p ls).2 (ix2 r i) = if keeps false ls.1 ls.2 (fun i => (p.1 (ix2 r i)).toInt) i then p.2 (ix2 r i)
        else p.2 (ix2 r (partner 9 ls.2.val i))) := by
  have hk := keep_at ls.1 ls.2 (cmpi .sle p.1 (partnerOf ls.2 p.1)) (cmpi .sge p.1 (partnerOf ls.2 p.1)) r i
    (decide ((p.1 (ix2 r i)).toInt ≤ (p.1 (ix2 r (partner 9 ls.2.val i))).toInt))
    (decide ((p.1 (ix2 r (partner 9 ls.2.val i))).toInt ≤ (p.1 (ix2 r i)).toInt))
    (by show IntOp.cmpi .sle (p.1 (ix2 r i)) (partnerOf ls.2 p.1 (ix2 r i)) = _; rw [partnerOf_at]; exact sle_word _ _)
    (by show IntOp.cmpi .sge (p.1 (ix2 r i)) (partnerOf ls.2 p.1 (ix2 r i)) = _; rw [partnerOf_at]; exact sge_word _ _)
  have hb : ∀ b : Bool, BitVec.ofBool b = 1#1 ↔ b = true := by decide
  have hk' : keep ls.1 ls.2 (cmpi .sle p.1 (partnerOf ls.2 p.1)) (cmpi .sge p.1 (partnerOf ls.2 p.1)) (ix2 r i)
      = BitVec.ofBool (keeps false ls.1 ls.2 (fun i => (p.1 (ix2 r i)).toInt) i) := by
    rw [hk]
    unfold keeps alike
    generalize (decide (i.val &&& 2 ^ ls.2.val = 0) == decide (i.val &&& 2 ^ (ls.1.val + 1) = 0)) = a
    cases a
    · exact congrArg BitVec.ofBool ((if_neg Bool.false_ne_true).trans (if_pos (by decide : (false == false) = true)).symm)
    · exact congrArg BitVec.ofBool ((if_pos rfl).trans (if_neg (by decide : ¬(true == false) = true)).symm)
  constructor
  · show (if keep ls.1 ls.2 _ _ (ix2 r i) = 1#1 then p.1 (ix2 r i) else partnerOf ls.2 p.1 (ix2 r i)) = _
    rw [partnerOf_at, hk']
    simp only [hb]
  · show (if keep ls.1 ls.2 _ _ (ix2 r i) = 1#1 then p.2 (ix2 r i) else partnerOf ls.2 p.2 (ix2 r i)) = _
    rw [partnerOf_at, hk']
    simp only [hb]

/-- The sorted row and its lane numbers are one arrangement of the row, in descending order. -/
theorem sortDesc_row (x : FVec Ideal S8x512 .f32) (r : Fin 8) :
    ∃ σ : Equiv.Perm (Fin 512), (Antitone fun i => x (ix2 r (σ i)))
      ∧ ∀ i, (sortDesc x).1 (ix2 r i) = x (ix2 r (σ i)) ∧ (sortDesc x).2 (ix2 r i) = BitVec.ofNat 32 (σ i).val := by
  obtain ⟨σ, h1, h2⟩ := fold_row (β := EReal) (γ := BitVec 32) true (fun a : EReal => a) (fun p ls => stepDesc (F := Idealize.ShloMosaic.Ideal) p ls) (fun p ls r i => stepDesc_at p ls r i) r stages stages_le
    (x, broadcastTo S8x512 (shapeCast S1x512 lane shapeCasts_S1x512_S1x512) broadcasts_S1x512_S8x512)
  refine ⟨σ, ?_, fun i => ⟨(h1 i).1, ?_⟩⟩
  · have ha := sortNet_apply_antitone 9 (fun i : Fin 512 => x (ix2 r i))
    rw [sortNet_stages] at ha
    have e : (fun i => x (ix2 r (σ i))) = Network.apply (stages.flatMap (netStage true)) (fun i : Fin 512 => x (ix2 r i)) := by
      refine Eq.trans ?_ h2
      exact funext fun i => (h1 i).1.symm
    rw [e]
    exact ha
  · have e := (h1 i).2
    unfold sortDesc
    refine e.trans ?_
    dsimp only
    rw [shapeCast_self]
    exact (broadcastTo_1b_ab_apply lane _ r (σ i)).trans (lane_at (σ i))

theorem perm_of_monotone (f : Equiv.Perm (Fin 512)) (h : Monotone f) (i : Fin 512) : f i = i := by
  have hs : StrictMono f := h.strictMono_of_injective f.injective
  have hs' : StrictMono f.symm := by
    intro a b hab
    by_contra hn
    have := h (not_lt.mp hn)
    rw [Equiv.apply_symm_apply, Equiv.apply_symm_apply] at this
    exact absurd hab (not_lt.mpr this)
  have a1 : i ≤ f i := hs.le_apply
  have a2 : f i ≤ f.symm (f i) := hs'.le_apply
  rw [Equiv.symm_apply_apply] at a2
  exact le_antisymm a2 a1

/-- Sorting by lane numbers moves every value to the lane its key names. -/
theorem scatterBy_row (k : IVec S8x512 32) (v : FVec Ideal S8x512 .f32) (r : Fin 8) (τ : Equiv.Perm (Fin 512))
    (hk : ∀ i, k (ix2 r i) = BitVec.ofNat 32 (τ i).val) (i : Fin 512) :
    scatterBy k v (ix2 r (τ i)) = v (ix2 r i) := by
  obtain ⟨σ, h1, h2⟩ := fold_row (β := BitVec 32) (γ := EReal) false (fun a : BitVec 32 => a.toInt) (fun p ls => stepAsc (F := Idealize.ShloMosaic.Ideal) p ls) (fun p ls r i => stepAsc_at p ls r i) r stages stages_le (k, v)
  have hm := sortNet_apply_monotone 9 (fun i : Fin 512 => (k (ix2 r i)).toInt)
  rw [sortNet_stages] at hm
  replace hm := h2.symm ▸ hm
  have ht : ∀ j : Fin 512, (k (ix2 r j)).toInt = ((τ j).val : ℤ) := fun j => by
    rw [hk, BitVec.toInt_ofNat']
    have := (τ j).isLt
    show Int.bmod _ _ = _
    rw [Int.bmod_eq_of_le] <;> omega
  have hid : ∀ j, (σ.trans τ) j = j := perm_of_monotone (σ.trans τ) fun a b hab => by
    have := hm hab
    simp only [(h1 _).1] at this
    rw [ht, ht] at this
    show (τ (σ a)).val ≤ (τ (σ b)).val
    exact_mod_cast this
  have hσ : σ (τ i) = i := τ.injective (hid (τ i))
  have := (h1 (τ i)).2
  rw [hσ] at this
  exact this

theorem reversed_lane : ∀ l : Fin 512, partner 9 0 (partner 9 1 (partner 9 2 (partner 9 3 (partner 9 4 (partner 9 5
    (partner 9 6 (partner 9 7 (partner 9 8 l)))))))) = (Fin.rev l : Fin 512) := by decide +kernel

theorem reversed_at {α : Type} (x : S8x512.Idx → α) (r : Fin 8) (l : Fin 512) : reversed x (ix2 r l) = x (ix2 r (Fin.rev l)) := by
  unfold reversed
  simp only [List.foldl_cons, List.foldl_nil, partnerOf_at]
  exact congrArg (fun k => x (ix2 r k)) (reversed_lane l)

end

end Cert.SoftSort

end
-- ==== Proof.Iso.lean ====
/-
  Isotonic regression as a minimum of maxima of means. Over the reals: where the argument does not fall from one lane to the
  next, the regression is the same on both lanes; where it falls everywhere, the regression is the argument.
-/
module

public import Idealize.ShloMosaic.PureOps.Ideal

@[expose] public section

noncomputable section

namespace Cert.SoftSort

open Idealize.ShloMosaic

/-- The sum of the lanes before `t`. -/
def pre (y : Fin 512 → EReal) (t : ℕ) : EReal := ∑ i ∈ Finset.univ.filter (fun i : Fin 512 => i.val < t), y i

/-- The mean of the lanes from `j` to `k`, off running sums. -/
def meanAt (c b : Fin 512 → EReal) (j k : Fin 512) : EReal :=
  Ideal.div (c k - b j) ((((k.val : ℤ) - j.val + 1 : ℤ) : ℝ) : EReal)

/-- The regression off running sums: over the lanes `j` up to this one the least of the greatest means from `j` to this lane
    or a later one. -/
def iso (c b : Fin 512 → EReal) (i : Fin 512) : EReal :=
  ⨅ j : Fin 512, if j ≤ i then ⨆ k : Fin 512, (if i ≤ k then meanAt c b j k else ⊥) else ⊤

/-- The regression of a row. -/
def regress (y : Fin 512 → EReal) : Fin 512 → EReal := iso (fun k => pre y (k.val + 1)) (fun j => pre y j.val)

/-- The real sum of the lanes before `t`. -/
def preR (y : Fin 512 → ℝ) (t : ℕ) : ℝ := ∑ i ∈ Finset.univ.filter (fun i : Fin 512 => i.val < t), y i

theorem pre_coe (y : Fin 512 → ℝ) (t : ℕ) : pre (fun i => (y i : EReal)) t = (preR y t : EReal) := by
  unfold pre preR
  generalize Finset.univ.filter (fun i : Fin 512 => i.val < t) = s
  induction s using Finset.induction_on with
  | empty => simp
  | insert a s ha ih => rw [Finset.sum_insert ha, Finset.sum_insert ha, ih, EReal.coe_add]

theorem preR_succ (y : Fin 512 → ℝ) (i : Fin 512) : preR y (i.val + 1) = preR y i.val + y i := by
  unfold preR
  have : Finset.univ.filter (fun k : Fin 512 => k.val < i.val + 1)
      = insert i (Finset.univ.filter (fun k : Fin 512 => k.val < i.val)) := by
    ext k
    simp only [Finset.mem_filter, Finset.mem_univ, true_and, Finset.mem_insert, Fin.ext_iff]
    omega
  rw [this, Finset.sum_insert (by simp), add_comm]

theorem pre_succ (y : Fin 512 → EReal) (i : Fin 512) : pre y (i.val + 1) = pre y i.val + y i := by
  unfold pre
  have : Finset.univ.filter (fun k : Fin 512 => k.val < i.val + 1)
      = insert i (Finset.univ.filter (fun k : Fin 512 => k.val < i.val)) := by
    ext k
    simp only [Finset.mem_filter, Finset.mem_univ, true_and, Finset.mem_insert, Fin.ext_iff]
    omega
  rw [this, Finset.sum_insert (by simp), add_comm]

/-- The height of the running sum over the line of slope `x`. -/
def over (y : Fin 512 → ℝ) (x : ℝ) (t : ℕ) : ℝ := preR y t - x * t

theorem over_succ (y : Fin 512 → ℝ) (x : ℝ) (i : Fin 512) : over y x (i.val + 1) = over y x i.val + (y i - x) := by
  unfold over
  rw [preR_succ]
  push_cast
  ring

theorem meanAt_le (y : Fin 512 → ℝ) (x : ℝ) (j k : Fin 512) (h : j ≤ k) :
    meanAt (fun k => pre (fun i => (y i : EReal)) (k.val + 1)) (fun j => pre (fun i => (y i : EReal)) j.val) j k ≤ (x : EReal)
      ↔ over y x (k.val + 1) ≤ over y x j.val := by
  have hj : j.val ≤ k.val := h
  have hp : (0 : ℝ) < (((k.val : ℤ) - j.val + 1 : ℤ) : ℝ) := by
    have : (0 : ℤ) < (k.val : ℤ) - j.val + 1 := by omega
    exact_mod_cast this
  unfold meanAt over
  simp only [pre_coe]
  rw [Ideal.div_coe hp.ne', ← EReal.coe_sub, ← EReal.coe_mul, EReal.coe_le_coe_iff, mul_one_div, div_le_iff₀ hp]
  push_cast
  constructor <;> intro h <;> linarith

theorem regress_le (y : Fin 512 → ℝ) (x : ℝ) (i : Fin 512) :
    regress (fun i => (y i : EReal)) i ≤ (x : EReal)
      ↔ ∃ j : Fin 512, j ≤ i ∧ ∀ t, i.val + 1 ≤ t → t ≤ 512 → over y x t ≤ over y x j.val := by
  unfold regress iso
  constructor
  · intro h
    by_contra hn
    push Not at hn
    have : (x : EReal) < ⨅ j : Fin 512, if j ≤ i then ⨆ k : Fin 512, (if i ≤ k then
        meanAt (fun k => pre (fun i => (y i : EReal)) (k.val + 1)) (fun j => pre (fun i => (y i : EReal)) j.val) j k else ⊥)
        else ⊤ := by
      obtain ⟨j, hj⟩ := exists_eq_ciInf_of_finite (f := fun j : Fin 512 => if j ≤ i then ⨆ k : Fin 512, (if i ≤ k then
        meanAt (fun k => pre (fun i => (y i : EReal)) (k.val + 1)) (fun j => pre (fun i => (y i : EReal)) j.val) j k else ⊥)
        else ⊤)
      rw [← hj]
      show (x : EReal) < if j ≤ i then _ else _
      split_ifs with hji
      · obtain ⟨t, ht1, ht2, ht⟩ := hn j hji
        obtain ⟨k, rfl⟩ : ∃ k : Fin 512, t = k.val + 1 := ⟨⟨t - 1, by omega⟩, by show t = t - 1 + 1; omega⟩
        have hik : i ≤ k := by show i.val ≤ k.val; omega
        refine lt_of_lt_of_le ?_ (le_iSup _ k)
        rw [if_pos hik]
        exact not_le.mp fun hle => not_le.mpr ht ((meanAt_le y x j k (hji.trans hik)).mp hle)
      · exact EReal.coe_lt_top x
    exact absurd h (not_le.mpr this)
  · rintro ⟨j, hji, hj⟩
    refine (iInf_le _ j).trans ?_
    rw [if_pos hji]
    refine iSup_le fun k => ?_
    split_ifs with hik
    · have hik' : i.val ≤ k.val := hik
      exact (meanAt_le y x j k (hji.trans hik)).mpr (hj _ (by omega) (by omega))
    · exact bot_le

theorem eq_of_real_bounds {a b : EReal} (h : ∀ x : ℝ, a ≤ (x : EReal) ↔ b ≤ (x : EReal)) : a = b :=
  le_antisymm (EReal.le_of_forall_lt_iff_le.mp fun z hz => (h z).mpr hz.le)
    (EReal.le_of_forall_lt_iff_le.mp fun z hz => (h z).mp hz.le)

/-- Where the argument does not fall from one lane to the next, the regression agrees on both. -/
theorem regress_tie (y : Fin 512 → ℝ) (i i' : Fin 512) (hi : i'.val = i.val + 1) (h : y i ≤ y i') :
    regress (fun i => (y i : EReal)) i = regress (fun i => (y i : EReal)) i' := by
  refine eq_of_real_bounds fun x => ?_
  rw [regress_le, regress_le]
  have e1 := over_succ y x i
  have e2 := over_succ y x i'
  rw [hi] at e2
  constructor
  · rintro ⟨j, hj, hk⟩
    have hj' : j.val ≤ i.val := hj
    exact ⟨j, by show j.val ≤ i'.val; omega, fun t h1 h2 => hk t (by omega) h2⟩
  · rintro ⟨j, hj, hk⟩
    have hj' : j.val ≤ i'.val := hj
    have h2 := hk (i.val + 1 + 1) (by omega) (by have := i'.isLt; omega)
    by_cases hji : j.val ≤ i.val
    · by_cases hd : over y x (i.val + 1) ≤ over y x j.val
      · refine ⟨j, hji, fun t ht1 ht2 => ?_⟩
        rcases Nat.eq_or_lt_of_le ht1 with rfl | hlt
        · exact hd
        · exact hk t (by omega) ht2
      · refine ⟨i, le_refl _, fun t ht1 ht2 => ?_⟩
        rcases Nat.eq_or_lt_of_le ht1 with rfl | hlt
        · linarith
        · have := hk t (by omega) ht2
          linarith
    · have hji' : j.val = i.val + 1 := by omega
      rw [hji'] at h2 hk
      refine ⟨i, le_refl _, fun t ht1 ht2 => ?_⟩
      rcases Nat.eq_or_lt_of_le ht1 with rfl | hlt
      · linarith
      · have := hk t (by omega) ht2
        linarith

/-- Where the argument never rises, the regression is the argument. -/
theorem regress_of_antitone (y : Fin 512 → ℝ) (h : Antitone y) (i : Fin 512) :
    regress (fun i => (y i : EReal)) i = (y i : EReal) := by
  refine eq_of_real_bounds fun x => ?_
  rw [regress_le, EReal.coe_le_coe_iff]
  constructor
  · rintro ⟨j, hj, hk⟩
    by_contra hx
    push Not at hx
    have hlt : ∀ n : ℕ, j.val + n ≤ i.val → over y x j.val < over y x (j.val + n + 1) := by
      intro n
      induction n with
      | zero =>
        intro _
        have e := over_succ y x j
        have hy := h hj
        show over y x j.val < over y x (j.val + 1)
        linarith
      | succ n ih =>
        intro hn
        have e := over_succ y x ⟨j.val + (n + 1), by have := i.isLt; omega⟩
        have hy : y i ≤ y ⟨j.val + (n + 1), by have := i.isLt; omega⟩ := h (show j.val + (n + 1) ≤ i.val by omega)
        have := ih (by omega)
        have e' : over y x (j.val + (n + 1) + 1) = _ := e
        rw [e']
        have e'' : over y x (j.val + (n + 1)) = over y x (j.val + n + 1) := rfl
        rw [e'']
        linarith
    have hj' : j.val ≤ i.val := hj
    have h1 := hlt (i.val - j.val) (by omega)
    rw [show j.val + (i.val - j.val) + 1 = i.val + 1 by omega] at h1
    exact absurd (hk (i.val + 1) le_rfl (by have := i.isLt; omega)) (not_le.mpr h1)
  · intro hx
    refine ⟨i, le_rfl, fun t ht1 ht2 => ?_⟩
    obtain ⟨n, rfl⟩ := Nat.exists_eq_add_of_le ht1
    clear ht1
    induction n with
    | zero =>
      have e := over_succ y x i
      show over y x (i.val + 1) ≤ _
      linarith
    | succ n ih =>
      have e := over_succ y x ⟨i.val + 1 + n, by omega⟩
      have hy : y ⟨i.val + 1 + n, by omega⟩ ≤ y i := h (show i.val ≤ i.val + 1 + n by omega)
      have := ih (by omega)
      show over y x (i.val + 1 + n + 1) ≤ _
      have e' : over y x (i.val + 1 + n + 1) = _ := e
      rw [e']
      show over y x (i.val + 1 + n) + _ ≤ _
      linarith

end Cert.SoftSort

end
-- ==== Proof.Sums.lean ====
/-
  The kernel's running sums, one row at a time: a lane's running sum in its block of 128 lanes, the blocks' totals, and the
  carries of the blocks before it, together the sum of the lanes up to it.
-/
module

public import proofs.«01_k».proof.Proof.Lanes
public import proofs.«01_k».proof.Proof.Iso
public import Idealize.ShloMosaic.Lib.Pointwise.Tactic
public import Idealize.ShloMosaic.Lib.Pointwise

@[expose] public section

noncomputable section

namespace Cert.SoftSort

open Cert.KernelIdeal Cert.KernelIdeal.Facts₀ Cert.KernelIdeal.Facts
open Idealize.ShloMosaic Idealize.SL.Sem
open Idealize.ShloMosaic.ValueIdx hiding ix1 ix2 ix3 eq_ix1 eq_ix2 eq_ix3

section
variable [Facts]

/-- The sum of the lanes from `a` up to `b`. -/
def span (y : Fin 512 → EReal) (a b : ℕ) : EReal := ∑ i ∈ Finset.univ.filter (fun i : Fin 512 => a ≤ i.val ∧ i.val < b), y i

theorem span_last (y : Fin 512 → EReal) (a : ℕ) (l : Fin 512) (h : a ≤ l.val) : span y a (l.val + 1) = span y a l.val + y l := by
  unfold span
  have : Finset.univ.filter (fun k : Fin 512 => a ≤ k.val ∧ k.val < l.val + 1)
      = insert l (Finset.univ.filter (fun k : Fin 512 => a ≤ k.val ∧ k.val < l.val)) := by
    ext k
    simp only [Finset.mem_filter, Finset.mem_univ, true_and, Finset.mem_insert, Fin.ext_iff]
    omega
  rw [this, Finset.sum_insert (by simp), add_comm]

theorem span_self (y : Fin 512 → EReal) (a : ℕ) : span y a a = 0 := by
  unfold span
  rw [Finset.filter_false_of_mem (fun i _ => by omega), Finset.sum_empty]

theorem span_split (y : Fin 512 → EReal) (a b c : ℕ) (h : a ≤ b) (h' : b ≤ c) : span y a b + span y b c = span y a c := by
  unfold span
  rw [← Finset.sum_union (Finset.disjoint_left.mpr fun i h1 h2 => by
    simp only [Finset.mem_filter, Finset.mem_univ, true_and] at h1 h2; omega)]
  congr 1
  ext k
  simp only [Finset.mem_filter, Finset.mem_univ, true_and, Finset.mem_union]
  omega

theorem span_pre (y : Fin 512 → EReal) (t : ℕ) : span y 0 t = pre y t := by
  unfold span pre
  simp only [Nat.zero_le, true_and]

theorem laneModW : ∀ (l : Fin 512) (n : Fin 127),
    IntOp.cmpi .eq (floorModW (BitVec.ofNat 32 (0 * 512 + l.val)) 128#32) (BitVec.ofNat 32 (n.val + 1))
      = BitVec.ofBool (decide (l.val % 128 = n.val + 1)) := by
  intro l n
  have h : ∀ l : Fin 512, floorModW (BitVec.ofNat 32 (0 * 512 + l.val)) 128#32 = BitVec.ofNat 32 (l.val % 128) := by
    decide +kernel
  have h2 : ∀ a b : Fin 128, IntOp.cmpi .eq (BitVec.ofNat 32 a.val) (BitVec.ofNat 32 b.val)
      = BitVec.ofBool (decide (a.val = b.val)) := by decide +kernel
  rw [h]
  exact h2 ⟨l.val % 128, Nat.mod_lt _ (by decide)⟩ ⟨n.val + 1, by have := n.isLt; omega⟩

theorem bit_one (b : Bool) : BitVec.ofBool b = 1#1 ↔ b = true := by
  revert b; decide

theorem sel_bool {α : Type} (b : Bool) (x y : α) : Scalar.select (BitVec.ofBool b) x y = if b = true then x else y := by
  cases b <;> rfl

/-- A lane's running sum after `n` steps: from its block's first lane where that is at most `n` lanes back, else itself. -/
theorem scanTo_at (y : FVec Ideal S16x512 .f32) (r : Fin 16) (n : ℕ) (hn : n ≤ 127) (l : Fin 512) :
    scanTo y n (ix2 r l) = if l.val % 128 ≤ n then span (fun i => y (ix2 r i)) (l.val - l.val % 128) (l.val + 1) else y (ix2 r l) := by
  induction n generalizing l with
  | zero =>
    show y (ix2 r l) = _
    split_ifs with h
    · have : l.val % 128 = 0 := by omega
      rw [this, Nat.sub_zero, span_last _ _ _ le_rfl, span_self, zero_add]
    · rfl
  | succ n ih =>
    have hl := l.isLt
    have hm : onRows16 (cmpi .eq laneMod (broadcast S1x512 (BitVec.ofNat 32 (n + 1)))) (ix2 r l)
        = BitVec.ofBool (decide (l.val % 128 = n + 1)) := by
      rw [onRows16_at]
      exact laneModW l ⟨n, by omega⟩
    show (if onRows16 _ (ix2 r l) = 1#1 then scanTo y n (ix2 r l) + rollR 16 1 _ (scanTo y n) (ix2 r l) else scanTo y n (ix2 r l)) = _
    rw [hm, rollR_at]
    simp only [bit_one, decide_eq_true_eq]
    by_cases h : l.val % 128 = n + 1
    · have ep : (⟨(l.val + (512 - 1)) % 512, Nat.mod_lt _ (by decide)⟩ : Fin 512) = ⟨l.val - 1, by omega⟩ :=
        Fin.ext (show (l.val + (512 - 1)) % 512 = l.val - 1 by omega)
      rw [if_pos h, ep, ih (by omega) l, ih (by omega) ⟨l.val - 1, by omega⟩, if_neg (show ¬ l.val % 128 ≤ n by omega),
        if_pos (show l.val % 128 ≤ n + 1 by omega), if_pos (show (l.val - 1) % 128 ≤ n by omega), span_last _ _ l (by omega), add_comm]
      have e1 : l.val - 1 - (l.val - 1) % 128 = l.val - l.val % 128 := by omega
      have e2 : l.val - 1 + 1 = l.val := by omega
      show span _ (l.val - 1 - (l.val - 1) % 128) (l.val - 1 + 1) + _ = _
      rw [e1, e2]
    · rw [if_neg h, ih (by omega) l]
      by_cases h' : l.val % 128 ≤ n
      · rw [if_pos h', if_pos (by omega)]
      · rw [if_neg h', if_neg (by omega)]

theorem scan_at (y : FVec Ideal S16x512 .f32) (r : Fin 16) (l : Fin 512) :
    scanTo y 127 (ix2 r l) = span (fun i => y (ix2 r i)) (l.val - l.val % 128) (l.val + 1) := by
  rw [scanTo_at y r 127 le_rfl, if_pos (by omega)]

theorem laneEqW : ∀ (l : Fin 512) (b : Fin 3), IntOp.cmpi .eq (BitVec.ofNat 32 (0 * 512 + l.val)) (BitVec.ofNat 32 (128 * (b.val + 1) - 1))
      = BitVec.ofBool (decide (l.val = 128 * (b.val + 1) - 1)) := by decide +kernel

theorem laneGeW : ∀ (l : Fin 512) (b : Fin 3), IntOp.cmpi .sge (BitVec.ofNat 32 (0 * 512 + l.val)) (BitVec.ofNat 32 (128 * (b.val + 1)))
      = BitVec.ofBool (decide (128 * (b.val + 1) ≤ l.val)) := by decide +kernel

theorem zeros16_at (i : S16x512.Idx) : zeros16 (F := Ideal) i = 0 := Ideal.ofBits_zero_f32

theorem blockTotal_at (c : FVec Ideal S16x512 .f32) (b : Fin 3) (r : Fin 16) :
    blockTotal c b.val (ix2 r 0) = c (ix2 r ⟨128 * (b.val + 1) - 1, by have := b.isLt; omega⟩) := by
  unfold blockTotal
  pointwise
  have hm : ∀ k : Fin 512, onRows16 (cmpi .eq lane (broadcast S1x512 (BitVec.ofNat 32 (128 * (b.val + 1) - 1)))) (ix2 r k)
      = BitVec.ofBool (decide (k.val = 128 * (b.val + 1) - 1)) := fun k => by
    rw [onRows16_at]; exact laneEqW k b
  simp only [hm, zeros16_at]
  simp only [sel_bool, decide_eq_true_eq]
  rw [Finset.sum_eq_single (⟨128 * (b.val + 1) - 1, by have := b.isLt; omega⟩ : Fin 512)]
  · rw [if_pos rfl]
  · intro k _ hk
    rw [if_neg fun h => hk (Fin.ext h)]
  · intro h
    exact absurd (Finset.mem_univ _) h

/-- The carries: the totals of the first `n` blocks, and on every lane the totals of those of them before its block. -/
theorem carries_at (y : FVec Ideal S16x512 .f32) (r : Fin 16) (n : ℕ) (hn : n ≤ 3) :
    (carries (scanTo y 127) n).1 (ix2 r 0) = span (fun i => y (ix2 r i)) 0 (128 * n)
      ∧ ∀ l : Fin 512, (carries (scanTo y 127) n).2 (ix2 r l) = span (fun i => y (ix2 r i)) 0 (128 * min n (l.val / 128)) := by
  induction n with
  | zero =>
    refine ⟨?_, fun l => ?_⟩
    · rw [Nat.mul_zero, span_self]; exact Ideal.ofBits_zero_f32
    · rw [Nat.zero_min, Nat.mul_zero, span_self]; exact Ideal.ofBits_zero_f32
  | succ n ih =>
    obtain ⟨h1, h2⟩ := ih (by omega)
    have ht : (addf (carries (scanTo y 127) n).1 (blockTotal (scanTo y 127) n)) (ix2 r 0)
        = span (fun i => y (ix2 r i)) 0 (128 * (n + 1)) := by
      show (carries (scanTo y 127) n).1 (ix2 r 0) + blockTotal (scanTo y 127) n (ix2 r 0) = _
      rw [h1, blockTotal_at _ (⟨n, by omega⟩ : Fin 3), scan_at, ← span_split _ 0 (128 * n) (128 * (n + 1)) (by omega) (by omega)]
      congr 1
      congr 1
      · show 128 * (n + 1) - 1 - (128 * (n + 1) - 1) % 128 = 128 * n
        omega
    refine ⟨ht, fun l => ?_⟩
    have hm : onRows16 (cmpi .sge lane (broadcast S1x512 (BitVec.ofNat 32 (128 * (n + 1))))) (ix2 r l)
        = BitVec.ofBool (decide (128 * (n + 1) ≤ l.val)) := by
      rw [onRows16_at]; exact laneGeW l ⟨n, by omega⟩
    show (if onRows16 _ (ix2 r l) = 1#1 then broadcastTo S16x512 (shapeCast S16x1 _ _) _ (ix2 r l) else (carries (scanTo y 127) n).2 (ix2 r l)) = _
    rw [hm, h2]
    simp only [bit_one, decide_eq_true_eq]
    split_ifs with h
    · rw [shapeCast_self, show min (n + 1) (l.val / 128) = n + 1 by omega, ← ht]
      pointwise
    · rw [show min (n + 1) (l.val / 128) = min n (l.val / 128) by omega]

/-- The running sums are the sums of the lanes up to each. -/
theorem runningSums_at (y : FVec Ideal S16x512 .f32) (r : Fin 16) (l : Fin 512) :
    runningSums y (ix2 r l) = pre (fun i => y (ix2 r i)) (l.val + 1) := by
  have hl := l.isLt
  show scanTo y 127 (ix2 r l) + (carries (scanTo y 127) 3).2 (ix2 r l) = _
  rw [scan_at, (carries_at y r 3 le_rfl).2, show min 3 (l.val / 128) = l.val / 128 by omega, add_comm, ← span_pre,
    ← span_split _ 0 (128 * (l.val / 128)) (l.val + 1) (by omega) (by omega)]
  congr 2
  omega

theorem before_at (c : FVec Ideal S8x512 .f32) (r : Fin 8) (l : Fin 512) :
    before c (ix2 r l) = if h : l.val = 0 then 0 else c (ix2 r ⟨l.val - 1, by have := l.isLt; omega⟩) := by
  unfold before
  refine (concat_lanes _ _ _ r l (by decide)).trans ?_
  split_ifs with h h' h'
  · exact Ideal.ofBits_zero_f32
  · omega
  · omega
  · refine (slice_at _ _ _ _ (by have := r.isLt; omega) (by show 0 + (l.val - 1) < 512; have := l.isLt; omega)).trans ?_
    congr 2
    · exact Fin.ext (by show 0 + r.val = r.val; omega)
    · exact Fin.ext (by show 0 + (l.val - 1) = l.val - 1; omega)

/-- The running sums before each lane, off the running sums. -/
theorem before_pre (c : FVec Ideal S8x512 .f32) (r : Fin 8) (y : Fin 512 → EReal)
    (hc : ∀ l : Fin 512, c (ix2 r l) = pre y (l.val + 1)) (l : Fin 512) : before c (ix2 r l) = pre y l.val := by
  rw [before_at]
  split_ifs with h
  · rw [h, ← span_pre, span_self]
  · rw [hc]
    congr 1
    show l.val - 1 + 1 = l.val
    omega

theorem sums1_at (x : FVec Ideal S8x512 .f32) (r : Fin 8) (l : Fin 512) :
    sums1 x (ix2 r l) = pre (fun i => sortArg x (ix2 r i)) (l.val + 1) := by
  have hr := r.isLt
  unfold sums1
  refine (slice_at _ _ _ _ (by omega) (by have := l.isLt; omega)).trans ?_
  refine (runningSums_at _ _ _).trans ?_
  have e : ∀ i : Fin 512, concatenate S16x512 0 [⟨S8x512, sortArg x⟩, ⟨S8x512, rankArg x⟩] concatenates_S8x512_S8x512_S16x512_d0
      (ix2 ⟨0 + r.val, by omega⟩ i) = sortArg x (ix2 r i) := fun i => by
    refine (concat_rows _ _ _ _ i (by decide)).trans ?_
    rw [dif_pos (show 0 + r.val < 8 by omega)]
    congr 2
    exact Fin.ext (by show 0 + r.val = r.val; omega)
  simp only [e]
  congr 1
  show 0 + l.val + 1 = l.val + 1
  omega

theorem sums2_at (x : FVec Ideal S8x512 .f32) (r : Fin 8) (l : Fin 512) :
    sums2 x (ix2 r l) = pre (fun i => rankArg x (ix2 r i)) (l.val + 1) := by
  have hr := r.isLt
  unfold sums2
  refine (slice_at _ _ _ _ (by omega) (by have := l.isLt; omega)).trans ?_
  refine (runningSums_at _ _ _).trans ?_
  have e : ∀ i : Fin 512, concatenate S16x512 0 [⟨S8x512, sortArg x⟩, ⟨S8x512, rankArg x⟩] concatenates_S8x512_S8x512_S16x512_d0
      (ix2 ⟨8 + r.val, by omega⟩ i) = rankArg x (ix2 r i) := fun i => by
    refine (concat_rows _ _ _ _ i (by decide)).trans ?_
    rw [dif_neg (show ¬ 8 + r.val < 8 by omega)]
    congr 2
    exact Fin.ext (by show 8 + r.val - 8 = r.val; omega)
  simp only [e]
  congr 1
  show 0 + l.val + 1 = l.val + 1
  omega

end

end Cert.SoftSort

end
-- ==== Proof.Regress.lean ====
/-
  The kernel's isotonic regression, one row and one lane at a time: the rectangle of means, the running maxima by doubling, and
  the minimum over the first axis are the minimum of maxima of means.
-/
module

public import proofs.«01_k».proof.Proof.Sums

@[expose] public section

noncomputable section

namespace Cert.SoftSort

open Cert.KernelIdeal Cert.KernelIdeal.Facts₀ Cert.KernelIdeal.Facts
open Idealize.ShloMosaic Idealize.SL.Sem
open Idealize.ShloMosaic.ValueIdx hiding ix1 ix2 ix3 eq_ix1 eq_ix2 eq_ix3

/-- Eight pieces one above the other, read at a row. -/
theorem cat8_rows {α : Type} {m n M : Nat} (hM : M = 8 * m) (f : Fin 8 → ((⟨2, ![m, n]⟩ : Shape).Idx → α))
    (h : Shape.Concatenates [⟨2, ![m, n]⟩, ⟨2, ![m, n]⟩, ⟨2, ![m, n]⟩, ⟨2, ![m, n]⟩, ⟨2, ![m, n]⟩, ⟨2, ![m, n]⟩, ⟨2, ![m, n]⟩,
      ⟨2, ![m, n]⟩] ⟨2, ![M, n]⟩ 0) (r : Fin 8) (i : Fin m) (l : Fin n) (q : Fin M) (hq : q.val = m * r.val + i.val) :
    cat8 (s := ⟨2, ![m, n]⟩) (t := ⟨2, ![M, n]⟩) 0 f h (ix2 q l) = f r (ix2 i l) := by
  have hm : 0 < m := lt_of_le_of_lt (Nat.zero_le _) i.isLt
  refine concatenate_ofFn_apply (t := ⟨2, ![M, n]⟩) (s₁ := ⟨2, ![m, n]⟩) 0 f h rfl m rfl (ix2 q l) r ?_ (ix2 i l) ?_ ?_
  · show q.val / m = r.val
    rw [hq, Nat.mul_add_div hm, Nat.div_eq_of_lt i.isLt, Nat.add_zero]
  · show i.val = q.val % m
    rw [hq, Nat.mul_add_mod, Nat.mod_eq_of_lt i.isLt]
  · intro b hb
    match b with
    | 0 => exact absurd rfl hb
    | 1 => rfl

theorem rowOf_at {α : Type} (n : Nat) (x : (⟨2, ![8, n]⟩ : Shape).Idx → α) (r : Fin 8) (l : Fin n) :
    rowOf n x r (ix2 0 l) = x (ix2 r l) := by
  unfold rowOf
  refine (slice_at x _ 0 l (by show r.val + 0 < 8; have := r.isLt; omega) (by have := l.isLt; omega)).trans ?_
  congr 2
  exact Fin.ext (by show 0 + l.val = l.val; omega)

theorem blockOf_at {α : Type} (n : Nat) (x : (⟨2, ![4096, n]⟩ : Shape).Idx → α) (r : Fin 8) (i : Fin 512) (l : Fin n)
    (q : Fin 4096) (hq : q.val = 512 * r.val + i.val) : blockOf n x r (ix2 i l) = x (ix2 q l) := by
  unfold blockOf
  refine (slice_at x _ i l (by rw [← hq]; exact q.isLt) (by have := l.isLt; omega)).trans ?_
  congr 2
  · exact Fin.ext hq.symm
  · exact Fin.ext (by show 0 + l.val = l.val; omega)

theorem word_le (a b : ℕ) (ha : a < 512) (hb : b < 512) :
    IntOp.cmpi .sge (BitVec.ofNat 32 a) (BitVec.ofNat 32 b) = BitVec.ofBool (decide (b ≤ a)) := by
  have t : ∀ a : ℕ, a < 512 → (BitVec.ofNat 32 a).toInt = (a : ℤ) := fun a ha => by
    rw [BitVec.toInt_ofNat']
    show Int.bmod _ _ = _
    rw [Int.bmod_eq_of_le] <;> omega
  show BitVec.ofBool (decide ((BitVec.ofNat 32 b).toInt ≤ (BitVec.ofNat 32 a).toInt)) = _
  rw [t a ha, t b hb]
  simp only [Nat.cast_le]

theorem word_length (j k : ℕ) (h : j ≤ k) (hk : k < 512) :
    (BitVec.ofNat 32 k - BitVec.ofNat 32 j + 1#32).toInt = (k : ℤ) - j + 1 := by
  have e : BitVec.ofNat 32 k - BitVec.ofNat 32 j + 1#32 = BitVec.ofNat 32 (k - j + 1) := by
    apply BitVec.eq_of_toNat_eq
    simp only [BitVec.toNat_add, BitVec.toNat_sub, BitVec.toNat_ofNat]
    omega
  rw [e, BitVec.toInt_ofNat']
  show Int.bmod _ _ = _
  rw [Int.bmod_eq_of_le] <;> omega

section
variable [Facts]

theorem subOf_at (r : Fin 8) (i : Fin 512) (k : Fin 512) (q : Fin 4096) (hq : q.val = 512 * r.val + i.val) :
    subOf (ix2 q k) = BitVec.ofNat 32 i.val := by
  have h : ∀ q : Fin 4096, floorModW (BitVec.ofNat 32 (0 * 4096 + q.val)) 512#32 = BitVec.ofNat 32 (q.val % 512) := by
    decide +kernel
  refine (h q).trans ?_
  rw [hq, Nat.mul_add_mod, Nat.mod_eq_of_lt i.isLt]

theorem maskM_at (r : Fin 8) (i : Fin 512) (k : Fin 512) (q : Fin 4096) (hq : q.val = 512 * r.val + i.val) :
    maskM (ix2 q k) = BitVec.ofBool (decide (i.val ≤ k.val)) := by
  show IntOp.cmpi .sge (BitVec.ofNat 32 (0 * 512 + k.val)) (subOf (ix2 q k)) = _
  rw [subOf_at r i k q hq, Nat.zero_mul, Nat.zero_add]
  exact word_le _ _ k.isLt i.isLt

theorem lengthM_at (r : Fin 8) (i : Fin 512) (k : Fin 512) (q : Fin 4096) (hq : q.val = 512 * r.val + i.val) (h : i ≤ k) :
    lengthM (F := Ideal) (ix2 q k) = ((((k.val : ℤ) - i.val + 1 : ℤ) : ℝ) : EReal) := by
  show Scalar.select (maskM (ix2 q k)) (((BitVec.ofNat 32 (0 * 512 + k.val) - subOf (ix2 q k) + 1#32).toInt : ℝ) : EReal) _ = _
  rw [maskM_at r i k q hq, subOf_at r i k q hq, sel_bool, if_pos (decide_eq_true (show i.val ≤ k.val from h)), Nat.zero_mul, Nat.zero_add,
    word_length _ _ h k.isLt]

theorem ident_at (i k : Fin 512) : ident (F := Ideal) (ix2 i k) = if i = k then 1 else 0 := by
  show ((((IntOp.cmpi .eq (BitVec.ofNat 32 (0 * 512 + i.val)) (BitVec.ofNat 32 (0 * 512 + k.val))).setWidth 32).toInt : ℝ) : EReal) = _
  have e : IntOp.cmpi .eq (BitVec.ofNat 32 (0 * 512 + i.val)) (BitVec.ofNat 32 (0 * 512 + k.val)) = BitVec.ofBool (decide (i = k)) := by
    show BitVec.ofBool (BitVec.ofNat 32 (0 * 512 + i.val) == BitVec.ofNat 32 (0 * 512 + k.val)) = _
    congr 1
    have hi := i.isLt
    have hk := k.isLt
    by_cases h : i = k
    · subst h; simp
    · have : i.val ≠ k.val := fun hh => h (Fin.ext hh)
      rw [decide_eq_false h, beq_eq_false_iff_ne]
      intro hh
      have := congrArg BitVec.toNat hh
      simp only [BitVec.toNat_ofNat] at this
      omega
  rw [e]
  by_cases h : i = k
  · rw [if_pos h, decide_eq_true h]; simp [BitVec.ofBool]
  · rw [if_neg h, decide_eq_false h]; simp [BitVec.ofBool]

/-- The column of the eight rows holds each row's lanes in order. -/
theorem asColumn_at (x : FVec Ideal S8x512 .f32) (r : Fin 8) (i : Fin 512) (q : Fin 4096) (hq : q.val = 512 * r.val + i.val) :
    asColumn x (ix2 q 0) = x (ix2 r i) := by
  unfold asColumn
  refine (cat8_rows (m := 512) (n := 1) (by decide) _ _ r i 0 q hq).trans ?_
  pointwise
  simp only [ident_at, rowOf_at]
  rw [Finset.sum_eq_single i]
  · rw [if_pos rfl, one_mul]
  · intro k _ hk
    rw [if_neg fun h => hk h.symm, zero_mul]
  · intro h
    exact absurd (Finset.mem_univ _) h

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem fold_min_top {ι : Type} [Fintype ι] (f : ι → EReal) : Finset.fold min ⊤ f Finset.univ = ⨅ i, f i :=
  (show Finset.fold min ⊤ f Finset.univ = Finset.univ.inf f from rfl).trans (Finset.inf_univ_eq_iInf f)

theorem fold_max_bot {ι : Type} [Fintype ι] (f : ι → EReal) : Finset.fold max ⊥ f Finset.univ = ⨆ i, f i :=
  (show Finset.fold max ⊥ f Finset.univ = Finset.univ.sup f from rfl).trans (Finset.sup_univ_eq_iSup f)

theorem means_at (c cs : FVec Ideal S8x512 .f32) (r : Fin 8) (i k : Fin 512) (q : Fin 4096) (hq : q.val = 512 * r.val + i.val) :
    means c cs (ix2 q k) = if i ≤ k then meanAt (fun k => c (ix2 r k)) (fun k => cs (ix2 r k)) i k else ⊥ := by
  unfold means
  show Scalar.select (maskM (ix2 q k)) (Ideal.div (cat8 _ _ _ (ix2 q k) - broadcastTo S4096x512 (asColumn cs) _ (ix2 q k))
    (lengthM (F := Idealize.ShloMosaic.Ideal) (ix2 q k))) (Ideal.ofBits .f32 0xFF800000#32) = _
  rw [maskM_at r i k q hq, sel_bool, ofBits_bot]
  simp only [decide_eq_true_eq]
  by_cases h : i ≤ k
  · rw [if_pos h, if_pos (show i.val ≤ k.val from h), lengthM_at r i k q hq h]
    unfold meanAt
    congr 2
    · refine (cat8_rows (m := 512) (n := 512) (by decide) _ _ r i k q hq).trans ?_
      rw [shapeCast_self]
      refine (broadcastTo_1b_ab_apply _ _ i k).trans ?_
      exact rowOf_at 512 c r k
    · refine Eq.trans ?_ (asColumn_at cs r i q hq)
      pointwise
  · rw [if_neg h, if_neg (show ¬ i.val ≤ k.val from h)]

/-- The maximum over the `n` lanes from `l` on. -/
def window (m : Fin 512 → EReal) (n : ℕ) (l : Fin 512) : EReal :=
  ⨆ k : Fin 512, if l.val ≤ k.val ∧ k.val < l.val + n then m k else ⊥

theorem le_window (m : Fin 512 → EReal) (n : ℕ) (l k : Fin 512) (h : l.val ≤ k.val) (h' : k.val < l.val + n) : m k ≤ window m n l := by
  refine le_trans (le_of_eq ?_) (le_iSup _ k)
  rw [if_pos ⟨h, h'⟩]

theorem window_le (m : Fin 512 → EReal) (n : ℕ) (l : Fin 512) (b : EReal)
    (h : ∀ k : Fin 512, l.val ≤ k.val → k.val < l.val + n → m k ≤ b) : window m n l ≤ b := by
  refine iSup_le fun k => ?_
  split_ifs with hk
  · exact h k hk.1 hk.2
  · exact bot_le

theorem window_double (m : Fin 512 → EReal) (n : ℕ) (hn : 0 < n) (l : Fin 512) :
    max (window m n l) (if h : l.val + n < 512 then window m n ⟨l.val + n, h⟩ else ⊥) = window m (2 * n) l := by
  apply le_antisymm
  · refine max_le (window_le _ _ _ _ fun k h h' => le_window _ _ _ _ h (by omega)) ?_
    split_ifs with h
    · exact window_le _ _ _ _ fun k h1 h2 => le_window _ _ _ _ (by change l.val + n ≤ k.val at h1; omega) (by change k.val < l.val + n + n at h2; omega)
    · exact bot_le
  · refine window_le _ _ _ _ fun k h1 h2 => ?_
    by_cases hk : k.val < l.val + n
    · exact le_max_of_le_left (le_window _ _ _ _ h1 hk)
    · refine le_max_of_le_right ?_
      rw [dif_pos (by have := k.isLt; omega)]
      exact le_window _ _ _ _ (by show l.val + n ≤ k.val; omega) (by show k.val < l.val + n + n; omega)

theorem maxStep_at (s : Fin 9) (m : FVec Ideal S4096x512 .f32) (q : Fin 4096) (l : Fin 512) :
    maxStep s m (ix2 q l) = max (m (ix2 q l)) (if h : l.val + 2 ^ s.val < 512 then m (ix2 q ⟨l.val + 2 ^ s.val, h⟩) else ⊥) := by
  have hs := pow_le s
  have hl := l.isLt
  unfold maxStep
  show max (m (ix2 q l)) _ = _
  congr 1
  refine (concat_lanes _ _ _ q l (by omega)).trans ?_
  by_cases h : l.val + 2 ^ s.val < 512
  · rw [dif_pos (by omega), dif_pos h]
    refine (slice_at _ _ _ _ (by have := q.isLt; omega) (by show 2 ^ s.val + l.val < 512; omega)).trans ?_
    congr 2
    · exact Fin.ext (by show 0 + q.val = q.val; omega)
    · exact Fin.ext (by show 2 ^ s.val + l.val = l.val + 2 ^ s.val; omega)
  · rw [dif_neg (by omega), dif_neg h]
    exact ofBits_bot

theorem maxStep_window (s : Fin 9) (m : Fin 512 → EReal) (m' : FVec Ideal S4096x512 .f32) (q : Fin 4096)
    (h : ∀ l, m' (ix2 q l) = window m (2 ^ s.val) l) (l : Fin 512) : maxStep s m' (ix2 q l) = window m (2 ^ (s.val + 1)) l := by
  rw [maxStep_at, Nat.pow_succ, Nat.mul_comm, ← window_double m _ (Nat.two_pow_pos _)]
  simp only [h]

theorem suffixMax_at (m : FVec Ideal S4096x512 .f32) (q : Fin 4096) (l : Fin 512) :
    suffixMax m (ix2 q l) = ⨆ k : Fin 512, if l ≤ k then m (ix2 q k) else ⊥ := by
  have h0 : ∀ l, m (ix2 q l) = window (fun k => m (ix2 q k)) (2 ^ (0 : Fin 9).val) l := fun l => by
    apply le_antisymm
    · exact le_window (fun k => m (ix2 q k)) _ l l le_rfl (by show l.val < l.val + 2 ^ 0; omega)
    · refine window_le _ _ _ _ fun k h1 h2 => le_of_eq ?_
      change k.val < l.val + 2 ^ 0 at h2
      rw [show k = l from Fin.ext (by omega)]
  have h := maxStep_window 8 _ _ q (maxStep_window 7 _ _ q (maxStep_window 6 _ _ q (maxStep_window 5 _ _ q
    (maxStep_window 4 _ _ q (maxStep_window 3 _ _ q (maxStep_window 2 _ _ q (maxStep_window 1 _ _ q (maxStep_window 0 _ _ q h0)))))))) l
  refine Eq.trans (show suffixMax m (ix2 q l) = _ from h) ?_
  unfold window
  congr 1
  funext k
  have hk := k.isLt
  have e : (l.val ≤ k.val ∧ k.val < l.val + 2 ^ ((8 : Fin 9).val + 1)) ↔ l ≤ k :=
    ⟨fun h => h.1, fun h => ⟨h, by show k.val < l.val + 2 ^ 9; omega⟩⟩
  simp only [e]

/-- The kernel's regression is the minimum of maxima of means. -/
theorem isotonic_at (c cs : FVec Ideal S8x512 .f32) (r : Fin 8) (l : Fin 512) :
    isotonic c cs (ix2 r l) = iso (fun k => c (ix2 r k)) (fun k => cs (ix2 r k)) l := by
  unfold isotonic
  refine (cat8_rows (m := 1) (n := 512) (by decide) _ _ r 0 l r (by show r.val = 1 * r.val + 0; omega)).trans ?_
  pointwise
  have hq : ∀ j : Fin 512, blockOf 512 (select maskM (suffixMax (means c cs)) (broadcast S4096x512 (Scalar.ofBits .f32 0x7F800000#32))) r
      (ix2 j l) = if j ≤ l then ⨆ k : Fin 512, (if l ≤ k then meanAt (fun k => c (ix2 r k)) (fun k => cs (ix2 r k)) j k else ⊥) else ⊤ := fun j => by
    have hb : 512 * r.val + j.val < 4096 := by have := r.isLt; have := j.isLt; omega
    refine (blockOf_at 512 _ r j l ⟨512 * r.val + j.val, hb⟩ rfl).trans ?_
    show Scalar.select (maskM _) _ (Ideal.ofBits .f32 0x7F800000#32) = _
    rw [maskM_at r j l _ rfl, sel_bool, ofBits_top, suffixMax_at]
    simp only [decide_eq_true_eq]
    by_cases h : j ≤ l
    · rw [if_pos h, if_pos (show j.val ≤ l.val from h)]
      congr 1
      funext k
      by_cases hk : l ≤ k
      · rw [if_pos hk, if_pos hk, means_at c cs r j k _ rfl, if_pos (h.trans hk)]
      · rw [if_neg hk, if_neg hk]
    · rw [if_neg h, if_neg (show ¬ j.val ≤ l.val from h)]
  rw [ofBits_top, fold_min_top]
  unfold iso
  congr 1
  funext j
  exact hq j

end

end Cert.SoftSort

end
-- ==== Proof.Ties.lean ====
/-
  The soft ranks do not depend on the order in which equal scores are sorted: positions with equal sorted scores have equal
  primal values.
-/
module

public import proofs.«01_k».proof.Proof.Iso

@[expose] public section

noncomputable section

namespace Cert.SoftSort

open Idealize.ShloMosaic

theorem not_lt_of_desc {α : Type} [LinearOrder α] (a : Fin 512 → α) (π : Equiv.Perm (Fin 512)) (ha : Antitone a)
    (hb : Antitone (a ∘ π)) (i : Fin 512) : ¬ a i < a (π i) := by
  intro h
  have hm : ∀ k ∈ Finset.univ.filter (fun k : Fin 512 => k ≤ i), π k ∈ Finset.univ.filter (fun k : Fin 512 => k < i) := by
    intro k hk
    simp only [Finset.mem_filter, Finset.mem_univ, true_and] at hk ⊢
    by_contra hn
    exact absurd (lt_of_lt_of_le h (hb hk)) (not_lt.mpr (ha (not_lt.mp hn)))
  have hc := Finset.card_le_card_of_injOn (fun k => π k) hm (fun a _ b _ h => π.injective h)
  have hs : Finset.univ.filter (fun k : Fin 512 => k < i) ⊂ Finset.univ.filter (fun k : Fin 512 => k ≤ i) := by
    refine Finset.ssubset_iff_subset_ne.mpr ⟨fun k hk => ?_, fun he => ?_⟩
    · simp only [Finset.mem_filter, Finset.mem_univ, true_and] at hk ⊢
      exact hk.le
    · have : i ∈ Finset.univ.filter (fun k : Fin 512 => k < i) := by rw [he]; simp
      simp at this
  exact absurd hc (not_le.mpr (Finset.card_lt_card hs))

/-- Two arrangements of one row in descending order are the same. -/
theorem desc_unique {α : Type} [LinearOrder α] (x : Fin 512 → α) (σ τ : Equiv.Perm (Fin 512)) (hσ : Antitone (x ∘ σ))
    (hτ : Antitone (x ∘ τ)) : x ∘ σ = x ∘ τ := by
  have e1 : (x ∘ σ) ∘ (τ.trans σ.symm) = x ∘ τ := funext fun i => congrArg x (σ.apply_symm_apply (τ i))
  have e2 : (x ∘ τ) ∘ (σ.trans τ.symm) = x ∘ σ := funext fun i => congrArg x (τ.apply_symm_apply (σ i))
  funext i
  have h1 := not_lt_of_desc (x ∘ σ) (τ.trans σ.symm) hσ (by rw [e1]; exact hτ) i
  have h2 := not_lt_of_desc (x ∘ τ) (σ.trans τ.symm) hτ (by rw [e2]; exact hσ) i
  rw [← Function.comp_apply (f := x ∘ σ), e1] at h1
  rw [← Function.comp_apply (f := x ∘ τ), e2] at h2
  exact le_antisymm (not_lt.mp h2) (not_lt.mp h1)

/-- What position `p` of the scores `t` in descending order is given: the score less the regression of the scores less the
    numbers `cd`. -/
def primal (t cd : Fin 512 → EReal) (p : Fin 512) : EReal := t p - regress (fun i => t i - cd i) p

theorem primal_tie (t cd : Fin 512 → ℝ) (ht : Antitone t) (hcd : Antitone cd) (p q : Fin 512) (hpq : p ≤ q) (h : t p = t q) :
    primal (fun i => (t i : EReal)) (fun i => (cd i : EReal)) p = primal (fun i => (t i : EReal)) (fun i => (cd i : EReal)) q := by
  unfold primal
  have key : ∀ n : ℕ, ∀ hn : p.val + n ≤ q.val,
      regress (fun i => ((t i - cd i : ℝ) : EReal)) p
        = regress (fun i => ((t i - cd i : ℝ) : EReal)) ⟨p.val + n, by have := q.isLt; omega⟩ := by
    intro n
    induction n with
    | zero => intro _; rfl
    | succ n ih =>
      intro hn
      rw [ih (by omega)]
      refine regress_tie (fun i => t i - cd i) _ _ rfl ?_
      have hc : cd ⟨p.val + (n + 1), by have := q.isLt; omega⟩ ≤ cd ⟨p.val + n, by have := q.isLt; omega⟩ :=
        hcd (show p.val + n ≤ p.val + (n + 1) by omega)
      have h1 : t ⟨p.val + n, by have := q.isLt; omega⟩ ≤ t p := ht (show p.val ≤ p.val + n by omega)
      have h2 : t q ≤ t ⟨p.val + (n + 1), by have := q.isLt; omega⟩ := ht (show p.val + (n + 1) ≤ q.val from hn)
      show t _ - cd _ ≤ t _ - cd _
      linarith
  have hpq' : p.val ≤ q.val := hpq
  have e := key (q.val - p.val) (by omega)
  have eq : (⟨p.val + (q.val - p.val), by have := q.isLt; omega⟩ : Fin 512) = q := Fin.ext (by show p.val + (q.val - p.val) = q.val; omega)
  rw [eq] at e
  simp only [← EReal.coe_sub]
  rw [h, e]

/-- Two arrangements of the scores in descending order put the same value at every lane. -/
theorem ranks_unique (z cd : Fin 512 → ℝ) (σ τ : Equiv.Perm (Fin 512)) (hσ : Antitone (z ∘ σ)) (hτ : Antitone (z ∘ τ))
    (hcd : Antitone cd) (a b : Fin 512 → EReal)
    (ha : ∀ p, a (σ p) = primal (fun i => (z (σ i) : EReal)) (fun i => (cd i : EReal)) p)
    (hb : ∀ p, b (τ p) = primal (fun i => (z (τ i) : EReal)) (fun i => (cd i : EReal)) p) : a = b := by
  have e : z ∘ σ = z ∘ τ := desc_unique z σ τ hσ hτ
  have e' : ∀ i, z (σ i) = z (τ i) := fun i => congrFun e i
  funext l
  have hl : a l = a (σ (σ.symm l)) := by rw [Equiv.apply_symm_apply]
  have hl' : b l = b (τ (τ.symm l)) := by rw [Equiv.apply_symm_apply]
  rw [hl, hl', ha, hb]
  simp only [← e']
  have hz : z (σ (σ.symm l)) = z (σ (τ.symm l)) := by
    rw [e' (τ.symm l), Equiv.apply_symm_apply, Equiv.apply_symm_apply]
  rcases le_total (σ.symm l) (τ.symm l) with h | h
  · exact primal_tie (fun i => z (σ i)) cd hσ hcd _ _ h hz
  · exact (primal_tie (fun i => z (σ i)) cd hσ hcd _ _ h hz.symm).symm

end Cert.SoftSort

end
-- ==== Proof.KernelRow.lean ====
/-
  The kernel's two results, one row at a time, for scores that are real numbers: the soft sort through the regression whichever
  way it is computed, and the soft ranks at every lane of a descending arrangement.
-/
module

public import proofs.«01_k».proof.Proof.Sorting
public import proofs.«01_k».proof.Proof.Regress
public import proofs.«01_k».proof.Proof.Ties
public import proofs.«01_k».proof.Proof.Frame

@[expose] public section

noncomputable section

namespace Cert.SoftSort

open Cert.KernelIdeal Cert.KernelIdeal.Facts₀ Cert.KernelIdeal.Facts
open Idealize.ShloMosaic Idealize.SL.Sem
open Idealize.ShloMosaic.ValueIdx hiding ix1 ix2 ix3 eq_ix1 eq_ix2 eq_ix3

/-- The numbers 512 down to one. -/
def cd (i : Fin 512) : ℝ := ((512 - (i.val : ℤ) : ℤ) : ℝ)

theorem cd_antitone : Antitone cd := fun a b h => by
  unfold cd
  have : a.val ≤ b.val := h
  exact_mod_cast (by omega : (512 - (b.val : ℤ)) ≤ 512 - (a.val : ℤ))

/-- The regularisation strength, the float32 nearest a tenth. -/
def strength : ℝ := 13421773 * (2 : ℝ) ^ (-27 : ℤ)

theorem strength_bits : Ideal.ofBits .f32 0x3DCCCCCD#32 = (strength : EReal) := by
  unfold strength
  simp [Ideal.ofBits, Ideal.ieee, -EReal.coe_mul]

theorem strength_ne : strength ≠ 0 := by
  unfold strength
  positivity

theorem ten_bits : Ideal.ofBits .f32 0xC1200000#32 = ((-10 : ℝ) : EReal) := by
  simp [Ideal.ofBits, Ideal.ieee, -EReal.coe_mul]
  norm_num

theorem two_bits : Ideal.ofBits .f32 0x40000000#32 = ((2 : ℝ) : EReal) := by
  simp [Ideal.ofBits, Ideal.ieee, -EReal.coe_mul]
  try norm_num

/-- The numbers 512 down to one over the regularisation strength. -/
def wt (i : Fin 512) : EReal := Ideal.div (cd i) (strength : EReal)

theorem wt_coe (i : Fin 512) : wt i = ((cd i * (1 / strength) : ℝ) : EReal) := by
  unfold wt
  rw [Ideal.div_coe strength_ne, EReal.coe_mul]

section
variable [Facts]

theorem countdown_at (l : Fin 512) : countdown (F := Ideal) (ix2 0 l) = (cd l : EReal) := by
  show (((512#32 - BitVec.ofNat 32 (0 * 512 + l.val)).toInt : ℝ) : EReal) = _
  have hl := l.isLt
  have e : 512#32 - BitVec.ofNat 32 (0 * 512 + l.val) = BitVec.ofNat 32 (512 - l.val) := by
    apply BitVec.eq_of_toNat_eq
    simp only [BitVec.toNat_sub, BitVec.toNat_ofNat]
    omega
  have t : (BitVec.ofNat 32 (512 - l.val)).toInt = 512 - (l.val : ℤ) := by
    rw [BitVec.toInt_ofNat']
    show Int.bmod _ _ = _
    rw [Int.bmod_eq_of_le] <;> omega
  rw [e, t]
  rfl

theorem weights_at (l : Fin 512) : weights (F := Ideal) (ix2 0 l) = wt l := by
  show Ideal.div (countdown (F := Ideal) (ix2 0 l)) (Ideal.ofBits .f32 0x3DCCCCCD#32) = _
  rw [countdown_at, strength_bits]
  rfl

theorem weights_row (r : Fin 8) (l : Fin 512) : broadcastTo S8x512 (weights (F := Ideal)) broadcasts_S1x512_S8x512 (ix2 r l) = wt l :=
  (broadcastTo_1b_ab_apply _ _ r l).trans (weights_at l)

theorem countdown_row (r : Fin 8) (l : Fin 512) :
    broadcastTo S8x512 (countdown (F := Ideal)) broadcasts_S1x512_S8x512 (ix2 r l) = (cd l : EReal) :=
  (broadcastTo_1b_ab_apply _ _ r l).trans (countdown_at l)

theorem sortArg_at (x : FVec Ideal S8x512 .f32) (r : Fin 8) (l : Fin 512) :
    sortArg x (ix2 r l) = wt l - (sortDesc x).1 (ix2 r l) := by
  show broadcastTo S8x512 (weights (F := Ideal)) broadcasts_S1x512_S8x512 (ix2 r l) - _ = _
  rw [weights_row]

theorem rankScores_at (x : FVec Ideal S8x512 .f32) (r : Fin 8) (l : Fin 512) :
    rankScores x (ix2 r l) = (sortDesc x).1 (ix2 r (Fin.rev l)) * ((-10 : ℝ) : EReal) := by
  show reversed (sortDesc x).1 (ix2 r l) * Ideal.ofBits .f32 0xC1200000#32 = _
  rw [reversed_at, ten_bits]

theorem rankArg_at (x : FVec Ideal S8x512 .f32) (r : Fin 8) (l : Fin 512) :
    rankArg x (ix2 r l) = rankScores x (ix2 r l) - (cd l : EReal) := by
  show _ - broadcastTo S8x512 (countdown (F := Ideal)) broadcasts_S1x512_S8x512 (ix2 r l) = _
  rw [countdown_row]

theorem asBlock_at (x : FVec Ideal S8x512 .f32) (r : Fin 8) (l : Fin 512) : asBlock x (ix3 0 r l) = x (ix2 r l) := by
  unfold asBlock
  pointwise

/-- The regression off the running sums of the sort's argument. -/
theorem sortFull_at (x : FVec Ideal S8x512 .f32) (r : Fin 8) (l : Fin 512) :
    sortFull x (ix3 0 r l) = wt l - regress (fun i => sortArg x (ix2 r i)) l := by
  unfold sortFull
  rw [asBlock_at]
  show broadcastTo S8x512 (weights (F := Ideal)) broadcasts_S1x512_S8x512 (ix2 r l) - isotonic _ _ (ix2 r l) = _
  rw [weights_row, isotonic_at]
  unfold regress
  simp only [before_pre _ r _ (sums1_at x r), sums1_at]

/-- Where the argument falls, the differences of the running sums do as well. -/
theorem sortCheap_at (x : FVec Ideal S8x512 .f32) (r : Fin 8) (y : Fin 512 → ℝ) (hy : ∀ i, sortArg x (ix2 r i) = (y i : EReal))
    (ha : Antitone y) (l : Fin 512) : sortCheap x (ix3 0 r l) = wt l - regress (fun i => sortArg x (ix2 r i)) l := by
  unfold sortCheap
  rw [asBlock_at]
  show broadcastTo S8x512 (weights (F := Ideal)) broadcasts_S1x512_S8x512 (ix2 r l) - (sums1 x (ix2 r l) - before (sums1 x) (ix2 r l)) = _
  rw [weights_row, before_pre _ r _ (sums1_at x r), sums1_at]
  simp only [hy]
  rw [regress_of_antitone y ha, pre_coe, pre_coe, preR_succ, ← EReal.coe_sub, add_sub_cancel_left]

theorem above_at (y : FVec Ideal S8x512 .f32) (r : Fin 8) (l : Fin 511) :
    above y (ix2 r l) = BitVec.ofBool (decide (y (ix2 r l.castSucc) - ((2 : ℝ) : EReal) < y (ix2 r l.succ))) := by
  unfold above
  show Ideal.cmp .ogt (extractStridedSlice S8x511 ![0, 1] y slices_S8x512_o0_1_S8x511 (ix2 r l))
    (extractStridedSlice S8x511 ![0, 0] y slices_S8x512_o0_0_S8x511 (ix2 r l) - Ideal.ofBits .f32 0x40000000#32) = _
  rw [two_bits]
  have hr := r.isLt
  have hl := l.isLt
  have e1 : extractStridedSlice S8x511 ![0, 1] y slices_S8x512_o0_1_S8x511 (ix2 r l) = y (ix2 r l.succ) := by
    refine (slice_at _ _ _ _ (by omega) (by show 1 + l.val < 512; omega)).trans ?_
    congr 2
    · exact Fin.ext (by show 0 + r.val = r.val; omega)
    · exact Fin.ext (by show 1 + l.val = l.val + 1; omega)
  have e2 : extractStridedSlice S8x511 ![0, 0] y slices_S8x512_o0_0_S8x511 (ix2 r l) = y (ix2 r l.castSucc) := by
    refine (slice_at _ _ _ _ (by omega) (by show 0 + l.val < 512; omega)).trans ?_
    congr 2
    · exact Fin.ext (by show 0 + r.val = r.val; omega)
    · exact Fin.ext (by show 0 + l.val = l.val; omega)
  rw [e1, e2]
  rfl

theorem violated_zero (x : FVec Ideal S8x512 .f32) (h : violated x = 0#1) (r : Fin 8) (l : Fin 511) :
    ¬ sortArg x (ix2 r l.castSucc) - ((2 : ℝ) : EReal) < sortArg x (ix2 r l.succ) := by
  intro hlt
  revert h
  unfold violated
  pointwise
  intro h
  have hb : ∀ b : Bool, BitVec.ofBool b = 0#1 → b = false := by decide
  refine absurd ?_ (of_decide_eq_false (hb _ h))
  rw [Finset.lt_fold_max]
  refine Or.inr ⟨(r, l), Finset.mem_univ _, ?_⟩
  dsimp only
  rw [above_at, sel_bool, if_pos (decide_eq_true hlt)]
  exact zero_lt_one

/-- Where no lane rises above the lane before it less two, the argument falls from lane to lane. -/
theorem falls (x : FVec Ideal S8x512 .f32) (h : violated x = 0#1) (r : Fin 8) (y : Fin 512 → ℝ)
    (hy : ∀ i, sortArg x (ix2 r i) = (y i : EReal)) : Antitone y := by
  refine Fin.antitone_iff_succ_le (n := 511) |>.mpr fun l => ?_
  have := violated_zero x h r l
  rw [hy, hy, ← EReal.coe_sub, EReal.coe_lt_coe_iff] at this
  linarith

/-- The soft sort of a row of real scores. -/
theorem sorted_at (x : FVec Ideal S8x512 .f32) (X : Fin 8 → Fin 512 → ℝ) (hx : ∀ r l, x (ix2 r l) = (X r l : EReal)) (r : Fin 8)
    (τ : Equiv.Perm (Fin 512)) (hτ : Antitone (X r ∘ τ)) (l : Fin 512) :
    sorted x (ix3 0 r l) = wt l - regress (fun i => wt i - (X r (τ i) : EReal)) l := by
  obtain ⟨σ, h1, h2⟩ := sortDesc_row x r
  have hrow : ∀ i, sortArg x (ix2 r i) = ((cd i * (1 / strength) - X r (σ i) : ℝ) : EReal) := fun i => by
    rw [sortArg_at, (h2 i).1, hx, wt_coe, EReal.coe_sub]
  have hs : sorted x (ix3 0 r l) = wt l - regress (fun i => sortArg x (ix2 r i)) l := by
    unfold sorted
    split_ifs with h
    · exact sortCheap_at x r _ hrow (falls x h r _ hrow) l
    · exact sortFull_at x r l
  rw [hs]
  have hd : X r ∘ σ = X r ∘ τ := desc_unique (X r) σ τ (fun a b hab => by
    have := h1 hab
    simp only [hx, EReal.coe_le_coe_iff] at this
    exact this) hτ
  have hd' : ∀ i, X r (σ i) = X r (τ i) := fun i => congrFun hd i
  simp only [hrow, hd', wt_coe, EReal.coe_sub]

/-- The soft ranks of a row of real scores, along a descending arrangement of the scores over minus the strength. -/
theorem ranks_at (x : FVec Ideal S8x512 .f32) (X : Fin 8 → Fin 512 → ℝ) (hx : ∀ r l, x (ix2 r l) = (X r l : EReal)) (r : Fin 8) :
    ∃ τ : Equiv.Perm (Fin 512), Antitone ((fun i => X r i * (-10)) ∘ τ) ∧ ∀ p, ranks x (ix3 0 r (τ p))
      = primal (fun i => ((X r (τ i) * (-10) : ℝ) : EReal)) (fun i => (cd i : EReal)) p := by
  obtain ⟨σ, h1, h2⟩ := sortDesc_row x r
  refine ⟨Fin.revPerm.trans σ, fun a b hab => ?_, fun p => ?_⟩
  · have := h1 (Fin.rev_le_rev.mpr hab)
    simp only [hx, EReal.coe_le_coe_iff] at this
    show X r (σ (Fin.rev b)) * (-10) ≤ X r (σ (Fin.rev a)) * (-10)
    linarith
  · have hz : ∀ i, rankScores x (ix2 r i) = ((X r (σ (Fin.rev i)) * (-10) : ℝ) : EReal) := fun i => by
      rw [rankScores_at, (h2 _).1, hx, EReal.coe_mul]
    have hk : ∀ i, reversed (sortDesc x).2 (ix2 r i) = BitVec.ofNat 32 ((Fin.revPerm.trans σ) i).val := fun i => by
      rw [reversed_at, (h2 _).2]
      rfl
    unfold ranks
    rw [asBlock_at, scatterBy_row _ _ r _ hk]
    show rankScores x (ix2 r p) - isotonic _ _ (ix2 r p) = _
    rw [isotonic_at]
    unfold primal regress
    simp only [before_pre _ r _ (sums2_at x r), sums2_at, rankArg_at, hz]
    rfl

end

end Cert.SoftSort

end
-- ==== Proof.RefRegress.lean ====
/-
  The reference's regression, one row at a time: its running sums and its suffix maxima are window reductions, and together they
  are the same minimum of maxima of means.
-/
module

public import proofs.«01_k».proof.Proof.Regress
public import proofs.«01_k».proof.Proof.Gen.KernelIdeal
public import proofs.«01_k».proof.Proof.Gen.ReferenceIdeal.Run

@[expose] public section

noncomputable section

namespace Cert.SoftSort

open Idealize.ShloMosaic Idealize.SL.Sem
open Idealize.ShloMosaic.ValueIdx hiding ix1 ix2 ix3 eq_ix1 eq_ix2 eq_ix3

/-- Adding up along a list of all positions is the sum. -/
theorem foldl_sum {n : ℕ} (f : Fin n → EReal) : (List.finRange n).foldl (fun r k => r + f k) 0 = ∑ k, f k := by
  rw [Fin.sum_univ_def, List.sum_eq_foldl, List.foldl_map]

theorem foldl_max {n : ℕ} (f : Fin n → EReal) (L : List (Fin n)) (a b : EReal) :
    L.foldl (fun r k => max r (f k)) a ≤ b ↔ a ≤ b ∧ ∀ k ∈ L, f k ≤ b := by
  induction L generalizing a with
  | nil => simp
  | cons k L ih =>
    rw [List.foldl_cons, ih, max_le_iff]
    simp only [List.mem_cons, forall_eq_or_imp]
    tauto

/-- Taking the maximum along a list of all positions is the supremum. -/
theorem foldl_sup {n : ℕ} (f : Fin n → EReal) : (List.finRange n).foldl (fun r k => max r (f k)) ⊥ = ⨆ k, f k := by
  refine eq_of_forall_ge_iff fun b => ?_
  rw [foldl_max, iSup_le_iff]
  simp

/-- A position of a window of one row of 512, and a position of a window of one matrix row of 512. -/
def pos2 : (⟨2, ![1, 512]⟩ : Shape).Idx ≃ Fin 512 where
  toFun i := i 1
  invFun k := ix2 0 k
  left_inv i := by
    funext a
    match a with
    | ⟨0, _⟩ => exact Fin.ext (by have : (i 0).val < 1 := (i 0).isLt; show 0 = (i 0).val; omega)
    | ⟨1, _⟩ => rfl
  right_inv _ := rfl

def pos3 : (⟨3, ![1, 1, 512]⟩ : Shape).Idx ≃ Fin 512 where
  toFun i := i 2
  invFun k := ix3 0 0 k
  left_inv i := by
    funext a
    match a with
    | ⟨0, _⟩ => exact Fin.ext (by have : (i 0).val < 1 := (i 0).isLt; show 0 = (i 0).val; omega)
    | ⟨1, _⟩ => exact Fin.ext (by have : (i 1).val < 1 := (i 1).isLt; show 0 = (i 1).val; omega)
    | ⟨2, _⟩ => rfl
  right_inv _ := rfl

/-- The sum over a window that ends at lane `l` is the running sum up to and including it. -/
theorem shifted_sum (y : Fin 512 → EReal) (l : Fin 512) :
    (∑ w : Fin 512, if h : 511 ≤ l.val + w.val ∧ l.val + w.val - 511 < 512 then y ⟨l.val + w.val - 511, h.2⟩ else 0) = pre y (l.val + 1) := by
  unfold pre
  have e : ∀ w : Fin 512, (if h : 511 ≤ l.val + w.val ∧ l.val + w.val - 511 < 512 then y ⟨l.val + w.val - 511, h.2⟩ else 0)
      = if 511 ≤ l.val + w.val then y ⟨l.val + w.val - 511, by omega⟩ else 0 := fun w => by
    by_cases h : 511 ≤ l.val + w.val
    · rw [dif_pos ⟨h, by omega⟩, if_pos h]
    · rw [dif_neg fun q => h q.1, if_neg h]
  simp only [e]
  rw [← Finset.sum_filter]
  refine Finset.sum_bij' (fun w _ => (⟨l.val + w.val - 511, by omega⟩ : Fin 512))
    (fun i hi => (⟨i.val + 511 - l.val, by
      have : i.val < l.val + 1 := (Finset.mem_filter.1 hi).2
      omega⟩ : Fin 512)) ?_ ?_ ?_ ?_ ?_
  · intro w hw
    have := (Finset.mem_filter.1 hw).2
    exact Finset.mem_filter.2 ⟨Finset.mem_univ _, by show l.val + w.val - 511 < l.val + 1; omega⟩
  · intro i hi
    have := (Finset.mem_filter.1 hi).2
    exact Finset.mem_filter.2 ⟨Finset.mem_univ _, by show 511 ≤ l.val + (i.val + 511 - l.val); omega⟩
  · intro w hw
    have := (Finset.mem_filter.1 hw).2
    exact Fin.ext (by show l.val + w.val - 511 + 511 - l.val = w.val; omega)
  · intro i hi
    have := (Finset.mem_filter.1 hi).2
    exact Fin.ext (by show l.val + (i.val + 511 - l.val) - 511 = i.val; omega)
  · intro w hw
    rfl

/-- The window sum of an array of rows of 512. -/
theorem windowSum_at {A : ℕ} (x : FVec Ideal ⟨2, ![A, 512]⟩ .f32) (init : (⟨0, ![]⟩ : Shape).Idx → EReal) (hi : ∀ i, init i = 0)
    (h : (⟨2, ![A, 512]⟩ : Shape).ReduceWindows ![1, 512] ![1, 1] ![0, 511] ![0, 0] ⟨2, ![A, 512]⟩) (hu : 0 < (⟨0, ![]⟩ : Shape).numel)
    (r : Fin A) (l : Fin 512) :
    Host.reduceWindowAdd (F := Ideal) (φ := .f32) ![1, 512] ![1, 1] ![0, 511] ![0, 0] x init h hu (ix2 r l)
      = pre (fun i => x (ix2 r i)) (l.val + 1) := by
  rw [← shifted_sum, ← Equiv.sum_comp pos2, ← Equiv.sum_comp (Shape.rowMajor _).symm, ← foldl_sum]
  rw [show Host.reduceWindowAdd (F := Ideal) (φ := .f32) ![1, 512] ![1, 1] ![0, 511] ![0, 0] x init h hu
    = Host.reduceWindow (α := EReal) (· + ·) ![1, 512] ![1, 1] ![0, 511] ![0, 0] x
      (fun _ : (⟨0, ![]⟩ : Shape).Idx => init (Shape.Idx.first hu)) h from rfl]
  unfold Host.reduceWindow
  simp only [hi]
  congr 1
  funext s n
  congr 1
  let i : (⟨2, ![1, 512]⟩ : Shape).Idx := (Shape.rowMajor _).symm n
  have h0 : (i 0).val = 0 := by have : (i 0).val < 1 := (i 0).isLt; omega
  by_cases q : 511 ≤ l.val + (i 1).val
  · have hb : l.val + (i 1).val - 511 < 512 := by have : (i 1).val < 512 := (i 1).isLt; omega
    rw [dif_pos, dif_pos (⟨q, hb⟩ : 511 ≤ l.val + (pos2 i).val ∧ l.val + (pos2 i).val - 511 < 512)]
    · congr 1
      funext a
      match a with
      | ⟨0, _⟩ => exact Fin.ext (by show r.val * 1 + (i 0).val - 0 = r.val; omega)
      | ⟨1, _⟩ => exact Fin.ext (by show l.val * 1 + (i 1).val - 511 = l.val + (i 1).val - 511; omega)
    · intro a
      match a with
      | ⟨0, _⟩ =>
        show 0 ≤ r.val * 1 + (i 0).val ∧ r.val * 1 + (i 0).val - 0 < A
        have := r.isLt
        omega
      | ⟨1, _⟩ =>
        show 511 ≤ l.val * 1 + (i 1).val ∧ l.val * 1 + (i 1).val - 511 < 512
        omega
  · rw [dif_neg, dif_neg fun z => q z.1]
    intro z
    have z1 := (z 1).1
    change 511 ≤ l.val * 1 + (i 1).val at z1
    omega

/-- The window maximum of an array of matrices with rows of 512: the greatest entry at a lane or after it. -/
theorem windowMax_at {A B : ℕ} (x : FVec Ideal ⟨3, ![A, B, 512]⟩ .f32) (init : (⟨0, ![]⟩ : Shape).Idx → EReal) (hi : ∀ i, init i = ⊥)
    (h : (⟨3, ![A, B, 512]⟩ : Shape).ReduceWindows ![1, 1, 512] ![1, 1, 1] ![0, 0, 0] ![0, 0, 511] ⟨3, ![A, B, 512]⟩)
    (hu : 0 < (⟨0, ![]⟩ : Shape).numel) (r : Fin A) (j : Fin B) (l : Fin 512) :
    Host.reduceWindow (FloatOps.maximumf (F := Ideal) (φ := .f32)) ![1, 1, 512] ![1, 1, 1] ![0, 0, 0] ![0, 0, 511] x init h hu (ix3 r j l)
      = ⨆ k : Fin 512, if l ≤ k then x (ix3 r j k) else ⊥ := by
  have e : Host.reduceWindow (FloatOps.maximumf (F := Ideal) (φ := .f32)) ![1, 1, 512] ![1, 1, 1] ![0, 0, 0] ![0, 0, 511] x init h hu (ix3 r j l)
      = ⨆ w : Fin 512, if h : l.val + w.val < 512 then x (ix3 r j ⟨l.val + w.val, h⟩) else ⊥ := by
    rw [← Equiv.iSup_comp pos3, ← Equiv.iSup_comp (Shape.rowMajor _).symm, ← foldl_sup]
    unfold Host.reduceWindow
    simp only [hi]
    congr 1
    funext s n
    show max s _ = max s _
    congr 1
    let i : (⟨3, ![1, 1, 512]⟩ : Shape).Idx := (Shape.rowMajor _).symm n
    have h0 : (i 0).val = 0 := by have : (i 0).val < 1 := (i 0).isLt; omega
    have h1 : (i 1).val = 0 := by have : (i 1).val < 1 := (i 1).isLt; omega
    by_cases q : l.val + (i 2).val < 512
    · rw [dif_pos, dif_pos (show l.val + (pos3 i).val < 512 from q)]
      · congr 1
        funext a
        match a with
        | ⟨0, _⟩ => exact Fin.ext (by show r.val * 1 + (i 0).val - 0 = r.val; omega)
        | ⟨1, _⟩ => exact Fin.ext (by show j.val * 1 + (i 1).val - 0 = j.val; omega)
        | ⟨2, _⟩ => exact Fin.ext (by show l.val * 1 + (i 2).val - 0 = l.val + (i 2).val; omega)
      · intro a
        match a with
        | ⟨0, _⟩ =>
          show 0 ≤ r.val * 1 + (i 0).val ∧ r.val * 1 + (i 0).val - 0 < A
          have := r.isLt
          omega
        | ⟨1, _⟩ =>
          show 0 ≤ j.val * 1 + (i 1).val ∧ j.val * 1 + (i 1).val - 0 < B
          have := j.isLt
          omega
        | ⟨2, _⟩ =>
          show 0 ≤ l.val * 1 + (i 2).val ∧ l.val * 1 + (i 2).val - 0 < 512
          omega
    · rw [dif_neg, dif_neg (show ¬ l.val + (pos3 i).val < 512 from q)]
      intro z
      have z1 := (z 2).2
      change l.val * 1 + (i 2).val - 0 < 512 at z1
      omega
  rw [e]
  apply le_antisymm
  · refine iSup_le fun w => ?_
    split
    · next hw =>
      refine le_trans ?_ (le_iSup _ (⟨l.val + w.val, hw⟩ : Fin 512))
      rw [if_pos (show l ≤ (⟨l.val + w.val, hw⟩ : Fin 512) from Nat.le_add_right _ _)]
    · exact bot_le
  · refine iSup_le fun k => ?_
    split
    · next hk =>
      have hk' : l.val ≤ k.val := hk
      refine le_trans ?_ (le_iSup _ (⟨k.val - l.val, by omega⟩ : Fin 512))
      rw [dif_pos (show l.val + (k.val - l.val) < 512 by omega)]
      refine le_of_eq ?_
      congr 2
      exact Fin.ext (by show k.val = l.val + (k.val - l.val); omega)
    · exact bot_le

section
open Cert.ReferenceIdeal Cert.ReferenceIdeal.Gen

/-- Lane numbers down a column and along a row. -/
def downs : IVec S512x1 32 := broadcastInDim S512x1 ![0] bcast_S512_S512x1_0 (iotaInDim S512 32 0)

def alongs : IVec S1x512 32 := broadcastInDim S1x512 ![1] bcast_S512_S1x512_1 (iotaInDim S512 32 0)

/-- The number of lanes from `j` to `k`. -/
def lengths : FVec Ideal S512x512 .f32 :=
  sitofp .f32 (addi (subi (broadcastInDim S512x512 ![0, 1] bcast_S1x512_S512x512_0_1 alongs) (broadcastInDim S512x512 ![0, 1] bcast_S512x1_S512x512_0_1 downs))
    (broadcastInDim S512x512 ![] bcast_S_S512x512 (constantI S_ 32 1#32)))

/-- Running sums with a zero in front. -/
def totals (y : FVec Ideal S32x512 .f32) : FVec Ideal S32x513 .f32 :=
  concatenate S32x513 1 [⟨S32x1, (broadcastInDim S32x1 ![] bcast_S_S32x1 (constant S_ .f32 0x00000000#32))⟩,
    ⟨S32x512, (Host.reduceWindowAdd ![1, 512] ![1, 1] ![0, 511] ![0, 0] y (broadcastInDim S_ ![] bcast_S_S_ (constant S_ .f32 0x00000000#32))
      reduceWindows_S32x512_S32x512_w1s1p0_0_w512s1p511_0 h_S_)⟩] concatenates_S32x1_S32x512_S32x513_d1

/-- The mean of the lanes from `j` to `k`, minus infinity where `k` comes before `j`. -/
def spanMeans (cs : FVec Ideal S32x513 .f32) : FVec Ideal S32x512x512 .f32 :=
  select (broadcastInDim S32x512x512 ![1, 2] bcast_S512x512_S32x512x512_1_2 (cmpi .sge (broadcastInDim S512x512 ![0, 1] bcast_S1x512_S512x512_0_1 alongs)
      (broadcastInDim S512x512 ![0, 1] bcast_S512x1_S512x512_0_1 downs)))
    (Host.divf (subf
      (broadcastInDim S32x512x512 ![0, 1, 2] bcast_S32x1x512_S32x512x512_0_1_2 (broadcastInDim S32x1x512 ![0, 2] bcast_S32x512_S32x1x512_0_2
        (extractStridedSlice S32x512 ![0, 1] cs slices_S32x513_S32x512_0_1)))
      (broadcastInDim S32x512x512 ![0, 1, 2] bcast_S32x512x1_S32x512x512_0_1_2 (broadcastInDim S32x512x1 ![0, 1] bcast_S32x512_S32x512x1_0_1
        (extractStridedSlice S32x512 ![0, 0] cs slices_S32x513_S32x512_0_0))))
      (broadcastInDim S32x512x512 ![0, 1, 2] bcast_S1x512x512_S32x512x512_0_1_2 (broadcastInDim S1x512x512 ![1, 2] bcast_S512x512_S1x512x512_1_2
        (select (cmpf .ogt lengths (broadcastInDim S512x512 ![] bcast_S_S512x512 (constant S_ .f32 0x00000000#32))) lengths
          (broadcastInDim S512x512 ![] bcast_S_S512x512 (id (constant S_ .f32 0x3F800000#32)))))))
    (broadcastInDim S32x512x512 ![] bcast_S_S32x512x512 (id (constant S_ .f32 0xFF800000#32)))

/-- The greatest entry at a lane or after it. -/
def spanMaxima (m : FVec Ideal S32x512x512 .f32) : FVec Ideal S32x512x512 .f32 :=
  Host.reduceWindow FloatOps.maximumf ![1, 1, 512] ![1, 1, 1] ![0, 0, 0] ![0, 0, 511] m (broadcastInDim S_ ![] bcast_S_S_ (constant S_ .f32 0xFF800000#32))
    reduceWindows_S32x512x512_S32x512x512_w1s1p0_0_w1s1p0_0_w512s1p0_511 h_S_

/-- The reference's regression of every row, off running sums. -/
def spanMinima (m : FVec Ideal S32x512x512 .f32) : FVec Ideal S32x512 .f32 :=
  Host.reduce FloatOps.minimumf (select (broadcastInDim S32x512x512 ![1, 2] bcast_S512x512_S32x512x512_1_2
      (cmpi .sle (broadcastInDim S512x512 ![0, 1] bcast_S512x1_S512x512_0_1 downs) (broadcastInDim S512x512 ![0, 1] bcast_S1x512_S512x512_0_1 alongs)))
      m (broadcastInDim S32x512x512 ![] bcast_S_S32x512x512 (id (constant S_ .f32 0x7F800000#32))))
    (constant S_ .f32 0x7F800000#32) reducesTo_S32x512x512_S32x512_d1 h_S_

theorem totals_succ (y : FVec Ideal S32x512 .f32) (r : Fin 32) (l : Fin 512) :
    extractStridedSlice S32x512 ![0, 1] (totals y) slices_S32x513_S32x512_0_1 (ix2 r l) = pre (fun i => y (ix2 r i)) (l.val + 1) := by
  unfold totals
  pointwise
  exact windowSum_at y _ (fun _ => Ideal.ofBits_zero_f32) _ _ r l

theorem totals_at (y : FVec Ideal S32x512 .f32) (r : Fin 32) (l : Fin 512) :
    extractStridedSlice S32x512 ![0, 0] (totals y) slices_S32x513_S32x512_0_0 (ix2 r l) = pre (fun i => y (ix2 r i)) l.val := by
  unfold totals
  pointwise
  split
  · next h =>
    have h0 : l.val = 0 := by omega
    rw [h0]
    unfold pre
    simp
  · next h =>
    refine (windowSum_at y _ (fun _ => Ideal.ofBits_zero_f32) _ _ r _).trans ?_
    show pre _ (l.val - 1 + 1) = _
    rw [Nat.sub_add_cancel (by omega)]

theorem lengths_at (j k : Fin 512) (h : j ≤ k) : lengths (ix2 j k) = ((((k.val : ℤ) - j.val + 1 : ℤ) : ℝ) : EReal) := by
  unfold lengths downs alongs
  pointwise
  show (((BitVec.ofNat 32 k.val - BitVec.ofNat 32 j.val + 1#32).toInt : ℝ) : EReal) = _
  rw [word_length j.val k.val h k.isLt]

theorem spanMeans_at (cs : FVec Ideal S32x513 .f32) (c b : Fin 512 → EReal) (r : Fin 32)
    (hc : ∀ l, extractStridedSlice S32x512 ![0, 1] cs slices_S32x513_S32x512_0_1 (ix2 r l) = c l)
    (hb : ∀ l, extractStridedSlice S32x512 ![0, 0] cs slices_S32x513_S32x512_0_0 (ix2 r l) = b l) (j k : Fin 512) :
    spanMeans cs (ix3 r j k) = if j ≤ k then meanAt c b j k else ⊥ := by
  unfold spanMeans downs alongs
  generalize extractStridedSlice S32x512 ![0, 1] cs slices_S32x513_S32x512_0_1 = u at *
  generalize extractStridedSlice S32x512 ![0, 0] cs slices_S32x513_S32x512_0_0 = v at *
  have hl := lengths_at j k
  generalize lengths = len at *
  pointwise
  rw [word_le _ _ k.isLt j.isLt, sel_bool]
  by_cases h : j ≤ k
  · have hp : (0 : EReal) < (((((k.val : ℤ) - j.val + 1 : ℤ) : ℝ)) : EReal) := by
      have h' : j.val ≤ k.val := h
      have : (0 : ℤ) < (k.val : ℤ) - j.val + 1 := by omega
      exact_mod_cast this
    rw [if_pos (decide_eq_true (show j.val ≤ k.val from h)), if_pos h, hl h, if_pos hp, hc, hb]
    rfl
  · rw [if_neg (by simpa using h), if_neg h]
    exact ofBits_bot

theorem word_ge (a b : ℕ) (ha : a < 512) (hb : b < 512) :
    IntOp.cmpi .sle (BitVec.ofNat 32 a) (BitVec.ofNat 32 b) = BitVec.ofBool (decide (a ≤ b)) := by
  exact word_le b a hb ha

theorem spanMaxima_at (m : FVec Ideal S32x512x512 .f32) (r : Fin 32) (j l : Fin 512) :
    spanMaxima m (ix3 r j l) = ⨆ k : Fin 512, if l ≤ k then m (ix3 r j k) else ⊥ := by
  exact windowMax_at m _ (fun _ => ofBits_bot) _ _ r j l

theorem spanMinima_at (m : FVec Ideal S32x512x512 .f32) (r : Fin 32) (l : Fin 512) :
    spanMinima m (ix2 r l) = ⨅ j : Fin 512, if j ≤ l then m (ix3 r j l) else ⊤ := by
  unfold spanMinima downs alongs
  pointwise
  rw [ofBits_top, fold_min_top]
  congr 1
  funext j
  rw [word_ge _ _ j.isLt l.isLt, sel_bool]
  by_cases h : j ≤ l
  · rw [if_pos (decide_eq_true (show j.val ≤ l.val from h)), if_pos h]
  · rw [if_neg (by simpa using h), if_neg h]
    exact ofBits_top

/-- The reference's regression of a row is the minimum of maxima of means. -/
theorem spans_at (y : FVec Ideal S32x512 .f32) (r : Fin 32) (l : Fin 512) :
    spanMinima (spanMaxima (spanMeans (totals y))) (ix2 r l) = regress (fun i => y (ix2 r i)) l := by
  rw [spanMinima_at]
  unfold regress iso
  congr 1
  funext j
  by_cases h : j ≤ l
  · rw [if_pos h, if_pos h, spanMaxima_at]
    congr 1
    funext k
    by_cases hk : l ≤ k
    · rw [if_pos hk, if_pos hk, spanMeans_at (totals y) _ _ r (totals_succ y r) (totals_at y r), if_pos (h.trans hk)]
    · rw [if_neg hk, if_neg hk]
  · rw [if_neg h, if_neg h]

end

end Cert.SoftSort

end
-- ==== Proof.RefSort.lean ====
/-
  The reference's sorts, one row at a time, and what it moves by them: the rows in descending order, the lanes in descending
  order of the scaled scores, the entries taken at those lanes and the values placed back at them.
-/
module

public import proofs.«01_k».proof.Proof.Sorting
public import proofs.«01_k».proof.Proof.RefRegress
public import Idealize.ShloMosaic.Lib.SortFacts
public import Idealize.ShloMosaic.Lib.Routing.OpsSet

@[expose] public section

noncomputable section

namespace Cert.SoftSort

open Idealize.ShloMosaic Idealize.SL.Sem
open Idealize.ShloMosaic.ValueIdx hiding ix1 ix2 ix3 eq_ix1 eq_ix2 eq_ix3
open Cert.ReferenceIdeal Cert.ReferenceIdeal.Gen

theorem key_at (l : EReal) :
    (FloatOps.cmpf (F := Ideal) (φ := .f32) .une l l = 0#1) ∧
      Scalar.select (FloatOps.cmpf (F := Ideal) (φ := .f32) .oeq l (FloatOps.ofBits (F := Ideal) .f32 0x00000000#32)) (FloatOps.ofBits (F := Ideal) .f32 0x00000000#32) l = l := by
  constructor
  · show BitVec.ofBool (decide (l ≠ l)) = 0#1
    simp
  · show Scalar.select (BitVec.ofBool (decide (l = Ideal.ofBits .f32 0x00000000#32))) (Ideal.ofBits .f32 0x00000000#32) l = l
    rw [sel_bool]
    split
    · next h => exact (of_decide_eq_true h).symm
    · rfl

theorem comparator_at (l r : EReal) : comparator_f32_d1 (F := Ideal) l r = BitVec.ofBool (decide (l < r)) := by
  unfold comparator_f32_d1
  dsimp only
  rw [(key_at l).1, (key_at l).2, (key_at r).1, (key_at r).2]
  rfl

theorem comparator2_at (l r : EReal × BitVec 32) : comparator_f32_i32_d1 (F := Ideal) l r = BitVec.ofBool (decide (l.1 < r.1)) := by
  unfold comparator_f32_i32_d1
  dsimp only
  rw [(key_at l.1).1, (key_at l.1).2, (key_at r.1).1, (key_at r.1).2]
  rfl

theorem along_row {A n : ℕ} (r : Fin A) (i k : Fin n) : Shape.Idx.along (s := ⟨2, ![A, n]⟩) (ix2 r i) 1 k = ix2 r k := by
  unfold Shape.Idx.along
  funext a
  match a with
  | ⟨0, _⟩ => rfl
  | ⟨1, _⟩ => rfl

/-- The order of a row by its keys. -/
def orderOf {n : ℕ} (y : Fin n → EReal) : Equiv.Perm (Fin n) :=
  Equiv.ofBijective (sortedFrom fun k k' => decide (y k < y k')) ⟨sortedFrom_injective _, sortedFrom_surjective _⟩

theorem orderOf_eq {n : ℕ} (y : Fin n → EReal) (i : Fin n) : orderOf y i = sortedFrom (fun k k' => decide (y k < y k')) i := rfl

theorem orderOf_monotone {n : ℕ} (y : Fin n → EReal) : Monotone (y ∘ orderOf y) := by
  intro i j h
  rcases h.lt_or_eq with h | rfl
  · have := sortedFrom_noInversion (fun k k' => decide (y k < y k')) (fun k k' => decide (y k < y k'))
      (fun a b q => decide_eq_false (lt_asymm (of_decide_eq_true q))) (fun _ _ q => q)
      (fun a b c p q => decide_eq_false (not_lt.2 (le_trans (not_lt.1 (of_decide_eq_false q)) (not_lt.1 (of_decide_eq_false p))))) i j h
    rw [← orderOf_eq, ← orderOf_eq] at this
    exact not_lt.1 (of_decide_eq_false this)
  · exact le_rfl

theorem sortBy_at {A n : ℕ} {α β : Type} (cmp : β → β → BitVec 1) (rows : (⟨2, ![A, n]⟩ : Shape).Idx → β) (x : (⟨2, ![A, n]⟩ : Shape).Idx → α)
    (y : Fin n → EReal) (r : Fin A) (h : ∀ k k', cmp (rows (ix2 r k)) (rows (ix2 r k')) = BitVec.ofBool (decide (y k < y k'))) (i : Fin n) :
    Host.sortBy ⟨2, ![A, n]⟩ 1 cmp rows x (ix2 r i) = x (ix2 r (orderOf y i)) := by
  have e : (fun k k' : Fin n => cmp (rows (Shape.Idx.along (s := ⟨2, ![A, n]⟩) (ix2 r i) 1 k)) (rows (Shape.Idx.along (s := ⟨2, ![A, n]⟩) (ix2 r i) 1 k')) == 1#1)
      = fun k k' => decide (y k < y k') := by
    funext k k'
    refine (congrArg (· == 1#1) ((congrArg₂ (fun a b => cmp (rows a) (rows b)) (along_row r i k) (along_row r i k')).trans (h k k'))).trans ?_
    generalize decide (y k < y k') = b
    cases b <;> rfl
  have u : Host.sortBy ⟨2, ![A, n]⟩ 1 cmp rows x (ix2 r i) = x (Shape.Idx.along (s := ⟨2, ![A, n]⟩) (ix2 r i) 1 (sortedFrom
      (fun k k' : Fin n => cmp (rows (Shape.Idx.along (s := ⟨2, ![A, n]⟩) (ix2 r i) 1 k)) (rows (Shape.Idx.along (s := ⟨2, ![A, n]⟩) (ix2 r i) 1 k')) == 1#1) i)) := by
    unfold Host.sortBy
    exact dif_pos (show 1 < 2 by decide)
  rw [u, orderOf_eq]
  exact (congrArg x (along_row r i _)).trans (congrArg (fun R => x (ix2 r (sortedFrom R i))) e)

theorem sort_at (x : FVec Ideal S32x512 .f32) (r : Fin 32) (i : Fin 512) :
    Host.sort S32x512 1 comparator_f32_d1 x (ix2 r i) = x (ix2 r (orderOf (fun k => x (ix2 r k)) i)) := by
  rw [Host.sort_eq_sortBy]
  exact sortBy_at _ _ _ _ r (fun k k' => comparator_at _ _) i

theorem lanes_at (r : Fin 32) (k : Fin 512) : iotaInDim S32x512 32 1 (ix2 r k) = BitVec.ofNat 32 k.val := rfl

theorem order_at (x : FVec Ideal S32x512 .f32) (r : Fin 32) (i : Fin 512) :
    (Host.sort2 S32x512 1 comparator_f32_i32_d1 x (iotaInDim S32x512 32 1)).2 (ix2 r i)
      = BitVec.ofNat 32 (orderOf (fun k => x (ix2 r k)) i).val := by
  have h : (Host.sort2 S32x512 1 comparator_f32_i32_d1 x (iotaInDim S32x512 32 1)).2
      = Host.sortBy S32x512 1 (comparator_f32_i32_d1 (F := Ideal)) (fun j => (x j, iotaInDim S32x512 32 1 j)) (iotaInDim S32x512 32 1) := by
    rw [Host.sort2_eq_sortBy]
  rw [h]
  generalize hv : iotaInDim S32x512 32 1 = v
  have hc : ∀ k k', comparator_f32_i32_d1 (F := Ideal) (x (ix2 r k), v (ix2 r k)) (x (ix2 r k'), v (ix2 r k'))
      = BitVec.ofBool (decide (x (ix2 r k) < x (ix2 r k'))) := fun k k' => comparator2_at _ _
  rw [sortBy_at (comparator_f32_i32_d1 (F := Ideal)) (fun j => (x j, v j)) v (fun k => x (ix2 r k)) r hc i, ← hv]
  exact lanes_at r _

/-- Lane numbers with negative ones counted from the end, as a column of one. -/
def wrapped (p : IVec S32x512 32) : IVec S32x512x1 32 :=
  shapeCast _ (select (cmpi .slt p (broadcastInDim S32x512 ![] bcast_S_S32x512 (constantI S_ 32 0#32)))
    (addi p (broadcastInDim S32x512 ![] bcast_S_S32x512 (constantI S_ 32 512#32))) p) shapeCasts_S32x512_S32x512x1

/-- Each row's entries at the lanes named. -/
def taken (z : FVec Ideal S32x512 .f32) (p : IVec S32x512x1 32) : FVec Ideal S32x512 .f32 :=
  select (Host.reduce IntOp.andi (andi (cmpi .sge p (broadcastInDim S32x512x1 ![] bcast_S_S32x512x1 (constantI S_ 32 0#32)))
      (cmpi .sle p (broadcastInDim S32x512x1 ![0, 1, 2] bcast_S1x1x1_S32x512x1_0_1_2 (broadcastInDim S1x1x1 ![2] bcast_S1_S1x1x1_2 (constantI S1 32 511#32)))))
      (constantI S_ 1 1#1) reducesTo_S32x512x1_S32x512_d2 h_S_)
    (Host.gather gather_S32x512_S32x512x1_S32x512_n_1_0_0_1_2_11 z p)
    (broadcastInDim S32x512 ![] bcast_S_S32x512 (constant S_ .f32 0x7FC00000#32))

/-- Row numbers down a column. -/
def rowNumbers : IVec S32x1 32 := broadcastInDim S32x1 ![0] bcast_S32_S32x1_0 (iotaInDim S32 32 0)

/-- Each row's values placed at the lanes named. -/
def placed (p : IVec S32x512 32) (v : FVec Ideal S32x512 .f32) : FVec Ideal S32x512 .f32 :=
  Host.scatter scatter_S32x512_S32x512x2_S32x512_n_01_01_2 (fun _ b => b) (broadcastInDim S32x512 ![] bcast_S_S32x512 (constant S_ .f32 0x00000000#32))
    (concatenate S32x512x2 2
      [⟨S32x512x1, (broadcastInDim S32x512x1 ![0, 1] bcast_S32x512_S32x512x1_0_1 (broadcastInDim S32x512 ![0, 1] bcast_S32x1_S32x512_0_1
        (select (cmpi .slt rowNumbers (broadcastInDim S32x1 ![] bcast_S_S32x1 (constantI S_ 32 0#32)))
          (addi rowNumbers (broadcastInDim S32x1 ![] bcast_S_S32x1 (constantI S_ 32 32#32))) rowNumbers)))⟩,
      ⟨S32x512x1, (broadcastInDim S32x512x1 ![0, 1] bcast_S32x512_S32x512x1_0_1
        (select (cmpi .slt p (broadcastInDim S32x512 ![] bcast_S_S32x512 (constantI S_ 32 0#32)))
          (addi p (broadcastInDim S32x512 ![] bcast_S_S32x512 (constantI S_ 32 512#32))) p))⟩] concatenates_S32x512x1_S32x512x1_S32x512x2_d2) v

theorem toInt_lane (i : ℕ) (h : i < 512) : (BitVec.ofNat 32 i).toInt = (i : ℤ) := by
  rw [BitVec.toInt_ofNat']
  show Int.bmod _ _ = _
  rw [Int.bmod_eq_of_le] <;> omega

theorem wrap_lane (i : ℕ) (h : i < 512) (a : BitVec 32) :
    Scalar.select (IntOp.cmpi .slt (BitVec.ofNat 32 i) 0#32) a (BitVec.ofNat 32 i) = BitVec.ofNat 32 i := by
  refine Idealize.ShloMosaic.Routing.wrap_of_lt _ _ ?_
  rw [BitVec.toNat_ofNat]
  omega

theorem wrapped_at (p : IVec S32x512 32) (σ : Fin 512 → Fin 512) (r : Fin 32) (i : Fin 512) (hp : p (ix2 r i) = BitVec.ofNat 32 (σ i).val) :
    wrapped p (ix3 r i 0) = BitVec.ofNat 32 (σ i).val := by
  unfold wrapped
  pointwise
  rw [hp]
  exact wrap_lane _ (σ i).isLt _

theorem gather_at (z : FVec Ideal S32x512 .f32) (p : IVec S32x512x1 32) (r : Fin 32) (i k : Fin 512) (hp : (p (ix3 r i 0)).toInt = k.val) :
    Host.gather gather_S32x512_S32x512x1_S32x512_n_1_0_0_1_2_11 z p (ix2 r i) = z (ix2 r k) := by
  unfold Host.gather
  congr 1
  funext a
  refine Fin.ext ?_
  show GatherDims.start _ (ix2 r i) p a + GatherDims.batchCoord _ (ix2 r i) a + GatherDims.offCoord _ (ix2 r i) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact dif_pos (List.mem_singleton.mpr rfl)
  | ⟨1, _⟩ =>
    rw [GatherDims.batchCoord_eq_zero _ _ _ (fun h => by
        have h' : (⟨1, by decide⟩ : Fin 2) ∈ ([0] : List (Fin 2)) := h
        exact absurd h' (by decide)),
      GatherDims.offCoord_eq_zero _ _ _ (fun h => ((GatherDims.mem_sKept _ _).mp h).1 (List.mem_singleton.mpr rfl))]
    simp only [Nat.add_zero]
    unfold GatherDims.start
    have hsi : ∀ c, gather_S32x512_S32x512x1_S32x512_n_1_0_0_1_2_11.siIdx (ix2 r i) c = ix3 r i 0 := fun c => by
      funext b; refine Fin.ext ?_
      match b with
      | ⟨0, _⟩ => rfl
      | ⟨1, _⟩ => rfl
      | ⟨2, _⟩ => exact (by
          have : c.val < 1 := c.isLt
          show c.val = 0
          omega)
    refine (dif_pos (List.mem_singleton.mpr rfl)).trans ?_
    rw [hsi, hp]
    show min k.val 511 = k.val
    have := k.isLt
    omega

theorem taken_at (z : FVec Ideal S32x512 .f32) (p : IVec S32x512x1 32) (r : Fin 32) (i k : Fin 512) (hp : p (ix3 r i 0) = BitVec.ofNat 32 k.val) :
    taken z p (ix2 r i) = z (ix2 r k) := by
  have ht : (p (ix3 r i 0)).toInt = k.val := by rw [hp, toInt_lane _ k.isLt]
  have hg := gather_at z p r i k ht
  unfold taken
  generalize Host.gather gather_S32x512_S32x512x1_S32x512_n_1_0_0_1_2_11 z p = g at *
  pointwise
  have h1 : IntOp.andi (IntOp.cmpi CmpIPredicate.sge (p (ix3 r i 0)) 0#32) (IntOp.cmpi CmpIPredicate.sle (p (ix3 r i 0)) 511#32) = 1#1 := by
    rw [sge_word, sle_word, ht, show (0#32).toInt = 0 from rfl, show (511#32).toInt = 511 from rfl, decide_eq_true (by omega), decide_eq_true (by have := k.isLt; omega)]
    rfl
  rw [Finset.univ_unique, Finset.fold_singleton]
  refine (congrArg (fun b => Scalar.select (IntOp.andi b 1#1) _ _) h1).trans hg

theorem placed_at (p : IVec S32x512 32) (v : FVec Ideal S32x512 .f32) (σ : Equiv.Perm (Fin 512)) (r : Fin 32)
    (hp : ∀ i, p (ix2 r i) = BitVec.ofNat 32 (σ i).val) (i : Fin 512) :
    placed p v (ix2 r (σ i)) = v (ix2 r i) := by
  unfold placed
  set idx := concatenate S32x512x2 2 _ _ with hidx
  have h0 : ∀ (a : Fin 32) (b : Fin 512), idx (ix3 a b 0) = BitVec.ofNat 32 a.val := fun a b => by
    rw [hidx]
    unfold rowNumbers
    pointwise
    exact wrap_lane _ (by have := a.isLt; omega) _
  have h1 : ∀ (b : Fin 512), idx (ix3 r b 1) = BitVec.ofNat 32 (σ b).val := fun b => by
    rw [hidx]
    pointwise
    rw [hp]
    exact wrap_lane _ (σ b).isLt _
  have hl : ∀ (a : Fin 32) (b : Fin 512) (r : Fin 32) (c : Fin 512),
      scatter_S32x512_S32x512x2_S32x512_n_01_01_2.resultIdx? (ix2 a b) idx = some (ix2 r c)
        ↔ (idx (ix3 a b 0)).toInt = r.val ∧ (idx (ix3 a b 1)).toInt = c.val := fun a b r c =>
    Idealize.ShloMosaic.Routing.scatter_lands2 scatter_S32x512_S32x512x2_S32x512_n_01_01_2 rfl rfl rfl idx a b r c
  refine Idealize.ShloMosaic.Routing.scatter_set_hit _ _ _ _ _ _ (fun k hk => ?_) (ix2 r i) ?_
  · obtain ⟨a, b, rfl⟩ : ∃ (a : Fin 32) (b : Fin 512), k = ix2 a b := ⟨k 0, k 1, by
      funext q
      match q with
      | ⟨0, _⟩ => rfl
      | ⟨1, _⟩ => rfl⟩
    obtain ⟨e0, e1⟩ := (hl a b r (σ i)).1 hk
    rw [h0, toInt_lane _ (by have := a.isLt; omega)] at e0
    obtain rfl : a = r := Fin.ext (by exact_mod_cast e0)
    rw [h1, toInt_lane _ (σ b).isLt] at e1
    rw [σ.injective (Fin.ext (by exact_mod_cast e1) : σ b = σ i)]
  · rw [hl, h0, h1, toInt_lane _ (by have := r.isLt; omega), toInt_lane _ (σ i).isLt]
    exact ⟨rfl, rfl⟩

end Cert.SoftSort

end
-- ==== Proof.RefRow.lean ====
/-
  The reference's two results, one row at a time, for scores that are real numbers.
-/
module

public import proofs.«01_k».proof.Proof.KernelRow
public import proofs.«01_k».proof.Proof.RefSort

@[expose] public section

noncomputable section

namespace Cert.SoftSort

open Idealize.ShloMosaic Idealize.SL.Sem
open Idealize.ShloMosaic.ValueIdx hiding ix1 ix2 ix3 eq_ix1 eq_ix2 eq_ix3
open Cert.ReferenceIdeal Cert.ReferenceIdeal.Gen

/-- The reference's weights, 512 down to one. -/
def refWeights : FVec Ideal S512 .f32 :=
  addf (broadcastInDim S512 ![] bcast_S_S512 (constant S_ .f32 0x44000000#32))
    (mulf (broadcastInDim S512 ![] bcast_S_S512 (constant S_ .f32 0xBF800000#32)) (sitofp .f32 (iotaInDim S512 32 0)))

/-- The weights over the regularisation strength, on every row. -/
def weightRows : FVec Ideal S32x512 .f32 :=
  broadcastInDim S32x512 ![0, 1] bcast_S1x512_S32x512_0_1 (broadcastInDim S1x512 ![1] bcast_S512_S1x512_1
    (Host.divf refWeights (broadcastInDim S512 ![] bcast_S_S512 (constant S_ .f32 0x3DCCCCCD#32))))

/-- The reference's soft sort of its scores. -/
def refSorted (x : FVec Ideal S32x512 .f32) : FVec Ideal S32x512 .f32 :=
  subf weightRows (spanMinima (spanMaxima (spanMeans (totals (subf weightRows (Host.negf (Host.sort S32x512 1 comparator_f32_d1 (Host.negf x))))))))

/-- The scores over the negated strength. -/
def scaled (x : FVec Ideal S32x512 .f32) : FVec Ideal S32x512 .f32 :=
  mulf x (broadcastInDim S32x512 ![] bcast_S_S32x512 (constant S_ .f32 0xC1200000#32))

/-- The lanes in descending order of the scaled scores. -/
def descent (x : FVec Ideal S32x512 .f32) : IVec S32x512 32 :=
  (Host.sort2 S32x512 1 comparator_f32_i32_d1 (Host.negf (scaled x)) (iotaInDim S32x512 32 1)).2

/-- The scaled scores in descending order. -/
def descended (x : FVec Ideal S32x512 .f32) : FVec Ideal S32x512 .f32 := taken (scaled x) (wrapped (descent x))

/-- The reference's soft ranks of its scores. -/
def refRanks (x : FVec Ideal S32x512 .f32) : FVec Ideal S32x512 .f32 :=
  placed (descent x) (subf (descended x) (spanMinima (spanMaxima (spanMeans (totals (subf (descended x)
    (broadcastInDim S32x512 ![0, 1] bcast_S1x512_S32x512_0_1 (broadcastInDim S1x512 ![1] bcast_S512_S1x512_1 refWeights))))))))

theorem refWeights_at (i : Fin 512) : refWeights (Idealize.ShloMosaic.ix1 i) = (cd i : EReal) := by
  unfold refWeights
  pointwise
  show Ideal.ofBits .f32 0x44000000#32 + Ideal.ofBits .f32 0xBF800000#32 * (((BitVec.ofNat 32 i.val).toInt : ℝ) : EReal) = _
  have h1 : Ideal.ofBits .f32 0x44000000#32 = ((512 : ℝ) : EReal) := by
    simp [Ideal.ofBits, Ideal.ieee, -EReal.coe_mul]
    try norm_num
  have h2 : Ideal.ofBits .f32 0xBF800000#32 = ((-1 : ℝ) : EReal) := by
    simp [Ideal.ofBits, Ideal.ieee, -EReal.coe_mul]
    try norm_num
  rw [h1, h2, toInt_lane _ i.isLt, ← EReal.coe_mul, ← EReal.coe_add]
  unfold cd
  congr 1
  push_cast
  ring

theorem weightRows_at (r : Fin 32) (l : Fin 512) : weightRows (ix2 r l) = wt l := by
  unfold weightRows
  have h := refWeights_at l
  generalize refWeights = w at *
  pointwise
  rw [h, strength_bits]
  rfl

theorem refSorted_at (x : FVec Ideal S32x512 .f32) (X : Fin 32 → Fin 512 → ℝ) (hx : ∀ r l, x (ix2 r l) = (X r l : EReal)) (r : Fin 32) :
    ∃ τ : Equiv.Perm (Fin 512), Antitone (X r ∘ τ) ∧ ∀ l, refSorted x (ix2 r l) = wt l - regress (fun i => wt i - (X r (τ i) : EReal)) l := by
  refine ⟨orderOf fun k => Host.negf x (ix2 r k), fun i j h => ?_, fun l => ?_⟩
  · have m := orderOf_monotone (fun k => Host.negf x (ix2 r k)) h
    change -(x (ix2 r _)) ≤ -(x (ix2 r _)) at m
    rw [hx, hx, EReal.neg_le_neg_iff, EReal.coe_le_coe_iff] at m
    exact m
  · show weightRows (ix2 r l) - spanMinima _ (ix2 r l) = _
    rw [spans_at, weightRows_at]
    congr 2
    funext i
    show weightRows (ix2 r i) - -(Host.sort S32x512 1 comparator_f32_d1 (Host.negf x) (ix2 r i)) = _
    rw [weightRows_at, sort_at]
    show wt i - - -(x (ix2 r _)) = _
    rw [neg_neg, hx]

theorem refRanks_at (x : FVec Ideal S32x512 .f32) (X : Fin 32 → Fin 512 → ℝ) (hx : ∀ r l, x (ix2 r l) = (X r l : EReal)) (r : Fin 32) :
    ∃ τ : Equiv.Perm (Fin 512), Antitone ((fun i => X r i * (-10)) ∘ τ) ∧
      ∀ p, refRanks x (ix2 r (τ p)) = primal (fun i => ((X r (τ i) * (-10) : ℝ) : EReal)) (fun i => (cd i : EReal)) p := by
  have hz : ∀ k, scaled x (ix2 r k) = ((X r k * (-10) : ℝ) : EReal) := fun k => by
    show x (ix2 r k) * Ideal.ofBits .f32 0xC1200000#32 = _
    rw [hx, ten_bits, EReal.coe_mul]
  have hd : ∀ i, descent x (ix2 r i) = BitVec.ofNat 32 (orderOf (fun k => Host.negf (scaled x) (ix2 r k)) i).val := fun i => order_at _ r i
  have ht : ∀ i, descended x (ix2 r i) = ((X r (orderOf (fun k => Host.negf (scaled x) (ix2 r k)) i) * (-10) : ℝ) : EReal) := fun i =>
    (taken_at _ _ r i _ (wrapped_at _ _ r i (hd i))).trans (hz _)
  have hw : ∀ i, broadcastInDim S32x512 ![0, 1] bcast_S1x512_S32x512_0_1 (broadcastInDim S1x512 ![1] bcast_S512_S1x512_1 refWeights) (ix2 r i) = (cd i : EReal) := fun i => by
    have h := refWeights_at i
    generalize refWeights = w at *
    pointwise
    exact h
  refine ⟨orderOf fun k => Host.negf (scaled x) (ix2 r k), fun i j h => ?_, fun p => ?_⟩
  · have m := orderOf_monotone (fun k => Host.negf (scaled x) (ix2 r k)) h
    change -(scaled x (ix2 r _)) ≤ -(scaled x (ix2 r _)) at m
    rw [hz, hz, EReal.neg_le_neg_iff, EReal.coe_le_coe_iff] at m
    exact m
  · have hy : (fun i => subf (descended x) (broadcastInDim S32x512 ![0, 1] bcast_S1x512_S32x512_0_1
        (broadcastInDim S1x512 ![1] bcast_S512_S1x512_1 refWeights)) (ix2 r i))
        = fun i => ((X r (orderOf (fun k => Host.negf (scaled x) (ix2 r k)) i) * (-10) : ℝ) : EReal) - (cd i : EReal) :=
      funext fun i => congrArg₂ (fun a b : EReal => a - b) (ht i) (hw i)
    unfold refRanks
    rw [placed_at _ _ _ r hd p]
    refine congrArg₂ (fun a b : EReal => a - b) (ht p) ?_
    rw [spans_at, hy]

end Cert.SoftSort

end
-- ==== Proof.RefScores.lean ====
/-
  The reference's scores, entry by entry: three dense layers over a row's query, a document and its score.
-/
module

public import proofs.«01_k».proof.Proof.RefRow

@[expose] public section

noncomputable section

namespace Cert.SoftSort

open Idealize.ShloMosaic Idealize.SL.Sem
open Idealize.ShloMosaic.ValueIdx hiding ix1 ix2 ix3 eq_ix1 eq_ix2 eq_ix3
open Cert.ReferenceIdeal Cert.ReferenceIdeal.Gen

/-- The features of a pair: the query, the document and the document's score. -/
def featuresOf (q d : Fin 128 → EReal) (s : EReal) (i : Fin 257) : EReal :=
  if h : i.val < 128 then q ⟨i.val, h⟩ else if h' : i.val - 128 < 128 then d ⟨i.val - 128, h'⟩ else s

/-- A dense layer with its positive part taken. -/
def dense {n : ℕ} (f : Fin n → EReal) (w : Fin n → Fin 64 → EReal) (b : Fin 64 → EReal) (k : Fin 64) : EReal :=
  max ((∑ i, f i * w i k) + b k) 0

/-- The score of a pair. -/
def scoreOf (f : Fin 257 → EReal) (w1 : Fin 257 → Fin 64 → EReal) (b1 : Fin 64 → EReal) (w2 : Fin 64 → Fin 64 → EReal) (b2 : Fin 64 → EReal)
    (w3 : Fin 64 → EReal) (b3 : EReal) : EReal :=
  (∑ k, dense (dense f w1 b1) w2 b2 k * w3 k) + b3

/-- The features the reference puts together. -/
def refFeatures (x0 : FVec Ideal S32x128 .f32) (x1 : FVec Ideal S32x512x128 .f32) (x2 : FVec Ideal S32x512 .f32) : FVec Ideal S32x512x257 .f32 :=
  concatenate S32x512x257 2 [⟨S32x512x128, (broadcastInDim S32x512x128 ![0, 1, 2] bcast_S32x1x128_S32x512x128_0_1_2
      (broadcastInDim S32x1x128 ![0, 2] bcast_S32x128_S32x1x128_0_2 x0))⟩, ⟨S32x512x128, x1⟩,
    ⟨S32x512x1, (broadcastInDim S32x512x1 ![0, 1] bcast_S32x512_S32x512x1_0_1 x2)⟩] concatenates_S32x512x128_S32x512x128_S32x512x1_S32x512x257_d2

/-- The reference's first hidden layer. -/
def refHidden1 (f : FVec Ideal S32x512x257 .f32) (w : FVec Ideal S257x64 .f32) (b : FVec Ideal S64 .f32) : FVec Ideal S32x512x64 .f32 :=
  maximumf (addf (Host.dotGeneral dot_S32x512x257_S257x64_S32x512x64_2_0_01_1_n_n none f w)
    (broadcastInDim S32x512x64 ![0, 1, 2] bcast_S1x1x64_S32x512x64_0_1_2 (broadcastInDim S1x1x64 ![2] bcast_S64_S1x1x64_2 b)))
    (broadcastInDim S32x512x64 ![] bcast_S_S32x512x64 (constant S_ .f32 0x00000000#32))

/-- The reference's second hidden layer. -/
def refHidden2 (f : FVec Ideal S32x512x64 .f32) (w : FVec Ideal S64x64 .f32) (b : FVec Ideal S64 .f32) : FVec Ideal S32x512x64 .f32 :=
  maximumf (addf (Host.dotGeneral dot_S32x512x64_S64x64_S32x512x64_2_0_01_1_n_n none f w)
    (broadcastInDim S32x512x64 ![0, 1, 2] bcast_S1x1x64_S32x512x64_0_1_2 (broadcastInDim S1x1x64 ![2] bcast_S64_S1x1x64_2 b)))
    (broadcastInDim S32x512x64 ![] bcast_S_S32x512x64 (constant S_ .f32 0x00000000#32))

/-- The reference's last layer. -/
def refOut (f : FVec Ideal S32x512x64 .f32) (w : FVec Ideal S64x1 .f32) (b : FVec Ideal S1 .f32) : FVec Ideal S32x512 .f32 :=
  shapeCast _ (addf (Host.dotGeneral dot_S32x512x64_S64x1_S32x512x1_2_0_01_1_n_n none f w)
    (broadcastInDim S32x512x1 ![0, 1, 2] bcast_S1x1x1_S32x512x1_0_1_2 (broadcastInDim S1x1x1 ![2] bcast_S1_S1x1x1_2 b))) shapeCasts_S32x512x1_S32x512

/-- The reference's scores. -/
def refScores (x0 : FVec Ideal S32x128 .f32) (x1 : FVec Ideal S32x512x128 .f32) (x2 : FVec Ideal S32x512 .f32) (x3 : FVec Ideal S257x64 .f32)
    (x4 : FVec Ideal S64 .f32) (x5 : FVec Ideal S64x64 .f32) (x6 : FVec Ideal S64 .f32) (x7 : FVec Ideal S64x1 .f32) (x8 : FVec Ideal S1 .f32) :
    FVec Ideal S32x512 .f32 :=
  refOut (refHidden2 (refHidden1 (refFeatures x0 x1 x2) x3 x4) x5 x6) x7 x8

theorem refFeatures_at (x0 : FVec Ideal S32x128 .f32) (x1 : FVec Ideal S32x512x128 .f32) (x2 : FVec Ideal S32x512 .f32) (r : Fin 32) (l : Fin 512) (i : Fin 257) :
    refFeatures x0 x1 x2 (ix3 r l i) = featuresOf (fun k => x0 (ix2 r k)) (fun k => x1 (ix3 r l k)) (x2 (ix2 r l)) i := by
  unfold refFeatures
  pointwise
  rfl

theorem refHidden1_at (f : FVec Ideal S32x512x257 .f32) (w : FVec Ideal S257x64 .f32) (b : FVec Ideal S64 .f32) (r : Fin 32) (l : Fin 512) (k : Fin 64) :
    refHidden1 f w b (ix3 r l k) = dense (fun i => f (ix3 r l i)) (fun i k => w (ix2 i k)) (fun k => b (Idealize.ShloMosaic.ix1 k)) k := by
  unfold refHidden1
  pointwise
  rfl

theorem refHidden2_at (f : FVec Ideal S32x512x64 .f32) (w : FVec Ideal S64x64 .f32) (b : FVec Ideal S64 .f32) (r : Fin 32) (l : Fin 512) (k : Fin 64) :
    refHidden2 f w b (ix3 r l k) = dense (fun i => f (ix3 r l i)) (fun i k => w (ix2 i k)) (fun k => b (Idealize.ShloMosaic.ix1 k)) k := by
  unfold refHidden2
  pointwise
  rfl

theorem refOut_at (f : FVec Ideal S32x512x64 .f32) (w : FVec Ideal S64x1 .f32) (b : FVec Ideal S1 .f32) (r : Fin 32) (l : Fin 512) :
    refOut f w b (ix2 r l) = (∑ k, f (ix3 r l k) * w (ix2 k 0)) + b (Idealize.ShloMosaic.ix1 0) := by
  unfold refOut
  pointwise
  try rfl

theorem refScores_at (x0 : FVec Ideal S32x128 .f32) (x1 : FVec Ideal S32x512x128 .f32) (x2 : FVec Ideal S32x512 .f32) (x3 : FVec Ideal S257x64 .f32)
    (x4 : FVec Ideal S64 .f32) (x5 : FVec Ideal S64x64 .f32) (x6 : FVec Ideal S64 .f32) (x7 : FVec Ideal S64x1 .f32) (x8 : FVec Ideal S1 .f32)
    (r : Fin 32) (l : Fin 512) :
    refScores x0 x1 x2 x3 x4 x5 x6 x7 x8 (ix2 r l)
      = scoreOf (featuresOf (fun k => x0 (ix2 r k)) (fun k => x1 (ix3 r l k)) (x2 (ix2 r l))) (fun i k => x3 (ix2 i k))
        (fun k => x4 (Idealize.ShloMosaic.ix1 k)) (fun i k => x5 (ix2 i k)) (fun k => x6 (Idealize.ShloMosaic.ix1 k)) (fun k => x7 (ix2 k 0)) (x8 (Idealize.ShloMosaic.ix1 0)) := by
  unfold refScores scoreOf
  rw [refOut_at]
  simp only [refHidden2_at, refHidden1_at, refFeatures_at]

/-- The reference run's first result is its soft sort, its second its soft ranks, of its scores. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74) = refSorted (refScores (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)))
      ∧ r.2.mem ((c.tc : Thread nD τ).loc main_v137) = refRanks (refScores (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans rfl, (h c).2.1.trans rfl, (h c).2.2⟩) (Value.run m ρ)

end Cert.SoftSort

end
-- ==== Proof.KernelScores.lean ====
/-
  The kernel's scores of a grid step, entry by entry: the same three dense layers; and a score of real numbers is a real number.
-/
module

public import proofs.«01_k».proof.Proof.RefScores

@[expose] public section

noncomputable section

namespace Cert.SoftSort

open Cert.KernelIdeal Cert.KernelIdeal.Facts₀ Cert.KernelIdeal.Facts
open Idealize.ShloMosaic Idealize.SL.Sem
open Idealize.ShloMosaic.ValueIdx hiding ix1 ix2 ix3 eq_ix1 eq_ix2 eq_ix3

section
variable [Facts]

theorem features_at (q : FVec Ideal S1x8x128 .f32) (docs : Fin 8 → FVec Ideal S1x512x128 .f32) (sc : FVec Ideal S1x8x512 .f32)
    (r : Fin 8) (l : Fin 512) (p : Fin 4096) (hp : p.val = 512 * r.val + l.val) (i : Fin 257) :
    features q docs sc (ix2 p i) = featuresOf (fun k => q (ix3 0 r k)) (fun k => docs r (ix3 0 l k)) (sc (ix3 0 r l)) i := by
  have hq : ∀ k, cat8 (s := S512x128) (t := S4096x128) 0
        (fun r => broadcastTo S512x128 (shapeCast S1x128 (rowOf 128 (shapeCast S8x128 q shapeCasts_S1x8x128_S8x128) r)
          shapeCasts_S1x128_S1x128) broadcasts_S1x128_S512x128)
        concatenates_S512x128_S512x128_S512x128_S512x128_S512x128_S512x128_S512x128_S512x128_S4096x128_d0 (ix2 p k) = q (ix3 0 r k) := fun k => by
    refine (cat8_rows (m := 512) (n := 128) (by decide) _ _ r l k p hp).trans ?_
    pointwise
    refine (rowOf_at 128 _ r k).trans ?_
    pointwise
  have hd : ∀ k, cat8 (s := S512x128) (t := S4096x128) 0
        (fun r => shapeCast S512x128 (docs r) shapeCasts_S1x512x128_S512x128)
        concatenates_S512x128_S512x128_S512x128_S512x128_S512x128_S512x128_S512x128_S512x128_S4096x128_d0 (ix2 p k) = docs r (ix3 0 l k) := fun k => by
    refine (cat8_rows (m := 512) (n := 128) (by decide) _ _ r l k p hp).trans ?_
    pointwise
  have hs : asColumn (shapeCast S8x512 sc shapeCasts_S1x8x512_S8x512) (ix2 p 0) = sc (ix3 0 r l) := by
    refine (asColumn_at _ r l p hp).trans ?_
    pointwise
  unfold features featuresOf
  generalize cat8 (s := S512x128) (t := S4096x128) 0
        (fun r => broadcastTo S512x128 (shapeCast S1x128 (rowOf 128 (shapeCast S8x128 q shapeCasts_S1x8x128_S8x128) r)
          shapeCasts_S1x128_S1x128) broadcasts_S1x128_S512x128) _ = u at *
  generalize cat8 (s := S512x128) (t := S4096x128) 0
        (fun r => shapeCast S512x128 (docs r) shapeCasts_S1x512x128_S512x128) _ = v at *
  generalize asColumn (shapeCast S8x512 sc shapeCasts_S1x8x512_S8x512) = w at *
  pointwise
  split
  · exact hq _
  · next h1 =>
    split
    · exact hd _
    · next h2 =>
      refine Eq.trans (congrArg (fun k => w (ix2 p k)) (Fin.ext ?_)) hs
      show i.val - 128 - 128 = 0
      have := i.isLt
      omega

theorem hidden_at (x : FVec Ideal S4096x64 .f32) (b : FVec Ideal S1x64 .f32) (p : Fin 4096) (k : Fin 64) :
    hidden x b (ix2 p k) = max (x (ix2 p k) + b (ix2 0 k)) 0 := by
  unfold hidden
  pointwise

theorem layer1_at (f : FVec Ideal S4096x257 .f32) (w : FVec Ideal S257x64 .f32) (p : Fin 4096) (k : Fin 64) :
    matmul dot_S4096x257_S257x64_S4096x64_1_0_0_1_n_n none f w (constant S4096x64 .f32 0x00000000#32) (ix2 p k) = ∑ i, f (ix2 p i) * w (ix2 i k) := by
  pointwise

theorem layer2_at (f : FVec Ideal S4096x64 .f32) (w : FVec Ideal S64x64 .f32) (p : Fin 4096) (k : Fin 64) :
    matmul dot_S4096x64_S64x64_S4096x64_1_0_0_1_n_n none f w (constant S4096x64 .f32 0x00000000#32) (ix2 p k) = ∑ i, f (ix2 p i) * w (ix2 i k) := by
  pointwise

theorem layers_at (f : FVec Ideal S4096x257 .f32) (w1 : FVec Ideal S257x64 .f32) (b1 : FVec Ideal S1x64 .f32) (w2 : FVec Ideal S64x64 .f32)
    (b2 : FVec Ideal S1x64 .f32) (p : Fin 4096) (k : Fin 64) :
    layers f w1 b1 w2 b2 (ix2 p k)
      = dense (dense (fun i => f (ix2 p i)) (fun i k => w1 (ix2 i k)) fun k => b1 (ix2 0 k)) (fun i k => w2 (ix2 i k)) (fun k => b2 (ix2 0 k)) k := by
  unfold layers dense
  rw [hidden_at, layer2_at]
  simp only [hidden_at, layer1_at]

theorem refined_at (h : FVec Ideal S4096x64 .f32) (w3 : Fin 8 → FVec Ideal S1x64 .f32) (b3 : FVec Ideal S1x1 .f32) (r : Fin 8) (l : Fin 512)
    (p : Fin 4096) (hp : p.val = 512 * r.val + l.val) :
    refined h w3 b3 (ix2 r l) = (∑ k, h (ix2 p k) * w3 r (ix2 0 k)) + b3 (ix2 0 0) := by
  have hc : cat8 (s := S1x512) (t := S8x512) 0
      (fun r => matmul dot_S1x64_S512x64_S1x512_1_1_0_0_n_n none (shapeCast S1x64 (w3 r) shapeCasts_S1x64_S1x64) (blockOf 64 h r)
        (constant S1x512 .f32 0x00000000#32))
      concatenates_S1x512_S1x512_S1x512_S1x512_S1x512_S1x512_S1x512_S1x512_S8x512_d0 (ix2 r l) = ∑ k, h (ix2 p k) * w3 r (ix2 0 k) := by
    refine (cat8_rows (m := 1) (n := 512) (by decide) _ _ r 0 l r (by show r.val = 1 * r.val + 0; omega)).trans ?_
    have hb : ∀ k, blockOf 64 h r (ix2 l k) = h (ix2 p k) := fun k => blockOf_at 64 h r l k p hp
    generalize blockOf 64 h r = g at *
    pointwise
    exact Finset.sum_congr rfl fun k _ => by rw [hb, mul_comm]
  unfold refined
  generalize cat8 (s := S1x512) (t := S8x512) 0 _ _ = g at *
  pointwise
  rw [hc]

theorem docRow_at (x : FVec Ideal S8x512x128 .f32) (r : Fin 8) (l : Fin 512) (k : Fin 128) : docRow (F := Ideal) x r (ix3 0 l k) = x (ix3 r l k) := by
  unfold docRow
  congr 1
  funext a
  match a with
  | ⟨0, _⟩ => rfl
  | ⟨1, _⟩ => rfl
  | ⟨2, _⟩ => rfl

/-- A grid step's score at a row and lane. -/
theorem scores_at (x0 : FVec Ideal S1x8x128 .f32) (x1 : FVec Ideal S8x512x128 .f32) (x2 : FVec Ideal S1x8x512 .f32) (x3 : FVec Ideal S257x64 .f32)
    (x4 : FVec Ideal S1x64 .f32) (x5 : FVec Ideal S64x64 .f32) (x6 : FVec Ideal S1x64 .f32) (x7 : FVec Ideal S1x64 .f32) (x8 : FVec Ideal S1x1 .f32)
    (r : Fin 8) (l : Fin 512) :
    scores (F := Ideal) x0 x1 x2 x3 x4 x5 x6 x7 x8 (ix2 r l)
      = scoreOf (featuresOf (fun k => x0 (ix3 0 r k)) (fun k => x1 (ix3 r l k)) (x2 (ix3 0 r l))) (fun i k => x3 (ix2 i k))
        (fun k => x4 (ix2 0 k)) (fun i k => x5 (ix2 i k)) (fun k => x6 (ix2 0 k)) (fun k => x7 (ix2 0 k)) (x8 (ix2 0 0)) := by
  obtain ⟨p, hp⟩ : ∃ p : Fin 4096, p.val = 512 * r.val + l.val := ⟨⟨512 * r.val + l.val, by have := r.isLt; have := l.isLt; omega⟩, rfl⟩
  unfold scores scoreOf
  rw [refined_at _ _ _ r l p hp]
  simp only [layers_at, features_at _ _ _ r l p hp, docRow_at]

end

/-- A real number among the extended reals. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max_zero {x : EReal} (hx : IsReal x) : IsReal (max x 0) := by
  rcases max_choice x 0 with h | h
  · rw [h]; exact hx
  · rw [h]; exact ⟨0, rfl⟩

theorem IsReal.sum {ι : Type} [Fintype ι] (f : ι → EReal) (h : ∀ i, IsReal (f i)) : IsReal (∑ i, f i) :=
  Finset.sum_induction f IsReal (fun _ _ => IsReal.add) ⟨0, rfl⟩ fun i _ => h i

theorem dense_real {n : ℕ} (f : Fin n → EReal) (w : Fin n → Fin 64 → EReal) (b : Fin 64 → EReal) (hf : ∀ i, IsReal (f i)) (hw : ∀ i k, IsReal (w i k))
    (hb : ∀ k, IsReal (b k)) (k : Fin 64) : IsReal (dense f w b k) :=
  ((IsReal.sum _ fun i => (hf i).mul (hw i k)).add (hb k)).max_zero

theorem features_real (q d : Fin 128 → EReal) (s : EReal) (hq : ∀ i, IsReal (q i)) (hd : ∀ i, IsReal (d i)) (hs : IsReal s) (i : Fin 257) :
    IsReal (featuresOf q d s i) := by
  unfold featuresOf
  split
  · exact hq _
  · split
    · exact hd _
    · exact hs

theorem score_real (f : Fin 257 → EReal) (w1 : Fin 257 → Fin 64 → EReal) (b1 : Fin 64 → EReal) (w2 : Fin 64 → Fin 64 → EReal) (b2 : Fin 64 → EReal)
    (w3 : Fin 64 → EReal) (b3 : EReal) (hf : ∀ i, IsReal (f i)) (hw1 : ∀ i k, IsReal (w1 i k)) (hb1 : ∀ k, IsReal (b1 k))
    (hw2 : ∀ i k, IsReal (w2 i k)) (hb2 : ∀ k, IsReal (b2 k)) (hw3 : ∀ k, IsReal (w3 k)) (hb3 : IsReal b3) : IsReal (scoreOf f w1 b1 w2 b2 w3 b3) :=
  (IsReal.sum _ fun k => (dense_real _ _ _ (dense_real _ _ _ hf hw1 hb1) hw2 hb2 k).mul (hw3 k)).add hb3

end Cert.SoftSort

end
-- ==== Proof.Blocks.lean ====
/-
  The blocks a grid step reads are eight rows of the arguments: step `t` sees rows `8 t` to `8 t + 7` of the queries, the
  documents and the scores, and all of the weights.
-/
module

public import proofs.«01_k».proof.Proof.Frame
public import proofs.«01_k».proof.Proof.KernelScores
public import Idealize.ShloMosaic.Lib.Claim

@[expose] public section

noncomputable section

namespace Cert.SoftSort

open Cert.KernelIdeal Cert.KernelIdeal.Gen
open Idealize.ShloMosaic Idealize.ShloMosaic.TcCoe Idealize.ShloMosaic.Tactic
open Idealize.ShloMosaic.StableHlo
open Idealize.SL.Sem
open Idealize.ShloMosaic.ValueIdx hiding ix1 ix2 ix3 eq_ix1 eq_ix2 eq_ix3

variable {F : FTy → Type} [FloatOps F]
variable (m : (ℓ : Loc nD τ sig) → Buf (Elt F) ℓ)

/-- Row `r` of grid step `t`, among the thirty-two rows. -/
def stepRow (t : Fin cfg0.N) (r : Fin 8) : Fin 32 := ⟨8 * t.val + r.val, by
  have h : t.val < 4 := t.isLt
  have := r.isLt
  omega⟩

/-- Thirty-two rows cut into four groups of eight: group `t`'s row `r` is row `8 t + r`. -/
theorem grouped_at {α : Type} {C : ℕ} (x : (⟨2, ![32, C]⟩ : Shape).Idx → α) (h : (⟨2, ![32, C]⟩ : Shape).ShapeCasts ⟨3, ![4, 8, C]⟩)
    (t : Fin 4) (r : Fin 8) (k : Fin C) (p : Fin 32) (hp : p.val = 8 * t.val + r.val) :
    shapeCast ⟨3, ![4, 8, C]⟩ x h (ix3 t r k) = x (ix2 p k) := by
  refine shapeCast_apply x h _ _ ?_
  rw [Shape.rowMajor_val_two, Shape.rowMajor_val_three]
  show p.val * C + k.val = (t.val * 8 + r.val) * C + k.val
  rw [hp, Nat.mul_comm t.val 8]

/-- Four groups of eight rows laid out again as thirty-two rows. -/
theorem ungrouped_at {α : Type} {C : ℕ} (x : (⟨3, ![4, 8, C]⟩ : Shape).Idx → α) (h : (⟨3, ![4, 8, C]⟩ : Shape).ShapeCasts ⟨2, ![32, C]⟩)
    (t : Fin 4) (r : Fin 8) (k : Fin C) (p : Fin 32) (hp : p.val = 8 * t.val + r.val) :
    shapeCast ⟨2, ![32, C]⟩ x h (ix2 p k) = x (ix3 t r k) := by
  refine shapeCast_apply x h _ _ ?_
  rw [Shape.rowMajor_val_two, Shape.rowMajor_val_three]
  show (t.val * 8 + r.val) * C + k.val = p.val * C + k.val
  rw [hp, Nat.mul_comm t.val 8]

/-- A vector laid out as a row. -/
theorem asRow_at {α : Type} {C : ℕ} (x : (⟨1, ![C]⟩ : Shape).Idx → α) (h : (⟨1, ![C]⟩ : Shape).ShapeCasts ⟨2, ![1, C]⟩) (k : Fin C) :
    shapeCast ⟨2, ![1, C]⟩ x h (ix2 0 k) = x (Idealize.ShloMosaic.ix1 k) := by
  refine shapeCast_apply x h _ _ ?_
  rw [Shape.rowMajor_val_two, Shape.rowMajor_val_one]
  show k.val = 0 * C + k.val
  omega

/-- A column laid out as a row. -/
theorem turned_at {α : Type} {C : ℕ} (x : (⟨2, ![C, 1]⟩ : Shape).Idx → α) (h : (⟨2, ![C, 1]⟩ : Shape).ShapeCasts ⟨2, ![1, C]⟩) (k : Fin C) :
    shapeCast ⟨2, ![1, C]⟩ x h (ix2 0 k) = x (ix2 k 0) := by
  refine shapeCast_apply x h _ _ ?_
  rw [Shape.rowMajor_val_two, Shape.rowMajor_val_two]
  show k.val * 1 + 0 = 0 * C + k.val
  omega

/-- The queries as the grid reads them. -/
theorem V_queries (c : Dev nD) : V m c main_v0 = shapeCast S4x8x128 (m ((c : Thread nD τ).loc main_arg0)) shapeCasts_S32x128_S4x8x128 := by
  unfold V V0
  simp only [hostOps0, List.flatten_cons, List.flatten_nil, List.append_nil, List.cons_append, List.nil_append]
  after_results
  rfl

/-- The scores as the grid reads them. -/
theorem V_given (c : Dev nD) : V m c main_v1 = shapeCast S4x8x512 (m ((c : Thread nD τ).loc main_arg2)) shapeCasts_S32x512_S4x8x512 := by
  unfold V V0
  simp only [hostOps0, List.flatten_cons, List.flatten_nil, List.append_nil, List.cons_append, List.nil_append]
  after_results
  rfl

/-- The first bias as a row. -/
theorem V_bias1 (c : Dev nD) : V m c main_v2 = shapeCast S1x64 (m ((c : Thread nD τ).loc main_arg4)) shapeCasts_S64_S1x64 := by
  unfold V V0
  simp only [hostOps0, List.flatten_cons, List.flatten_nil, List.append_nil, List.cons_append, List.nil_append]
  after_results
  rfl

/-- The second bias as a row. -/
theorem V_bias2 (c : Dev nD) : V m c main_v3 = shapeCast S1x64 (m ((c : Thread nD τ).loc main_arg6)) shapeCasts_S64_S1x64 := by
  unfold V V0
  simp only [hostOps0, List.flatten_cons, List.flatten_nil, List.append_nil, List.cons_append, List.nil_append]
  after_results
  rfl

/-- The last bias as a one by one array. -/
theorem V_bias3 (c : Dev nD) : V m c main_v4 = shapeCast S1x1 (m ((c : Thread nD τ).loc main_arg8)) shapeCasts_S1_S1x1 := by
  unfold V V0
  simp only [hostOps0, List.flatten_cons, List.flatten_nil, List.append_nil, List.cons_append, List.nil_append]
  after_results
  rfl

/-- The last weights as a row. -/
theorem V_weights3 (c : Dev nD) : V m c main_v5 = shapeCast S1x64 (m ((c : Thread nD τ).loc main_arg7)) shapeCasts_S64x1_S1x64 := by
  unfold V V0
  simp only [hostOps0, List.flatten_cons, List.flatten_nil, List.append_nil, List.cons_append, List.nil_append]
  after_results
  rfl

theorem index_queries (t : Fin cfg0.N) : win0_0.index t 0 = t.val ∧ win0_0.index t 1 = 0 ∧ win0_0.index t 2 = 0 :=
  (by decide +kernel : ∀ t : Fin 4, win0_0.index t 0 = t.val ∧ win0_0.index t 1 = 0 ∧ win0_0.index t 2 = 0) t

theorem block_queries (c : Dev nD) (t : Fin cfg0.N) (r : Fin 8) (k : Fin 128) :
    (iblk m c 0 t : Vec F S1x8x128 .f32) (ix3 0 r k) = (V m c main_v0 : Vec F S4x8x128 .f32) (ix3 (⟨t.val, t.isLt⟩ : Fin 4) r k) := by
  have hi := index_queries t
  unfold iblk
  rw [View.read_apply]
  show V m c main_v0 _ = _
  refine congrArg (V m c main_v0) (funext fun a => Fin.ext ?_)
  match a with
  | ⟨0, _⟩ => show win0_0.index t 0 * 1 + 1 * 0 = t.val; rw [hi.1]; omega
  | ⟨1, _⟩ => show win0_0.index t 1 * 8 + 1 * r.val = r.val; rw [hi.2.1]; omega
  | ⟨2, _⟩ => show win0_0.index t 2 * 128 + 1 * k.val = k.val; rw [hi.2.2]; omega

theorem index_documents (t : Fin cfg0.N) : win0_1.index t 0 = t.val ∧ win0_1.index t 1 = 0 ∧ win0_1.index t 2 = 0 :=
  (by decide +kernel : ∀ t : Fin 4, win0_1.index t 0 = t.val ∧ win0_1.index t 1 = 0 ∧ win0_1.index t 2 = 0) t

theorem block_documents (c : Dev nD) (t : Fin cfg0.N) (r : Fin 8) (l : Fin 512) (k : Fin 128) :
    (iblk m c 1 t : Vec F S8x512x128 .f32) (ix3 r l k) = (V m c main_arg1 : Vec F S32x512x128 .f32) (ix3 (stepRow t r) l k) := by
  have hi := index_documents t
  unfold iblk
  rw [View.read_apply]
  show V m c main_arg1 _ = _
  refine congrArg (V m c main_arg1) (funext fun a => Fin.ext ?_)
  match a with
  | ⟨0, _⟩ => show win0_1.index t 0 * 8 + 1 * r.val = 8 * t.val + r.val; rw [hi.1]; omega
  | ⟨1, _⟩ => show win0_1.index t 1 * 512 + 1 * l.val = l.val; rw [hi.2.1]; omega
  | ⟨2, _⟩ => show win0_1.index t 2 * 128 + 1 * k.val = k.val; rw [hi.2.2]; omega

theorem index_given (t : Fin cfg0.N) : win0_2.index t 0 = t.val ∧ win0_2.index t 1 = 0 ∧ win0_2.index t 2 = 0 :=
  (by decide +kernel : ∀ t : Fin 4, win0_2.index t 0 = t.val ∧ win0_2.index t 1 = 0 ∧ win0_2.index t 2 = 0) t

theorem block_given (c : Dev nD) (t : Fin cfg0.N) (r : Fin 8) (l : Fin 512) :
    (iblk m c 2 t : Vec F S1x8x512 .f32) (ix3 0 r l) = (V m c main_v1 : Vec F S4x8x512 .f32) (ix3 (⟨t.val, t.isLt⟩ : Fin 4) r l) := by
  have hi := index_given t
  unfold iblk
  rw [View.read_apply]
  show V m c main_v1 _ = _
  refine congrArg (V m c main_v1) (funext fun a => Fin.ext ?_)
  match a with
  | ⟨0, _⟩ => show win0_2.index t 0 * 1 + 1 * 0 = t.val; rw [hi.1]; omega
  | ⟨1, _⟩ => show win0_2.index t 1 * 8 + 1 * r.val = r.val; rw [hi.2.1]; omega
  | ⟨2, _⟩ => show win0_2.index t 2 * 512 + 1 * l.val = l.val; rw [hi.2.2]; omega

theorem index_weights1 (t : Fin cfg0.N) : win0_3.index t 0 = 0 ∧ win0_3.index t 1 = 0 :=
  (by decide +kernel : ∀ t : Fin 4, win0_3.index t 0 = 0 ∧ win0_3.index t 1 = 0) t

theorem block_weights1 (c : Dev nD) (t : Fin cfg0.N) (i : Fin 257) (k : Fin 64) :
    (iblk m c 3 t : Vec F S257x64 .f32) (ix2 i k) = (V m c main_arg3 : Vec F S257x64 .f32) (ix2 i k) := by
  have hi := index_weights1 t
  unfold iblk
  rw [View.read_apply]
  show V m c main_arg3 _ = _
  refine congrArg (V m c main_arg3) (funext fun a => Fin.ext ?_)
  match a with
  | ⟨0, _⟩ => show win0_3.index t 0 * 257 + 1 * i.val = i.val; rw [hi.1]; omega
  | ⟨1, _⟩ => show win0_3.index t 1 * 64 + 1 * k.val = k.val; rw [hi.2]; omega

theorem index_bias1 (t : Fin cfg0.N) : win0_4.index t 0 = 0 ∧ win0_4.index t 1 = 0 :=
  (by decide +kernel : ∀ t : Fin 4, win0_4.index t 0 = 0 ∧ win0_4.index t 1 = 0) t

theorem block_bias1 (c : Dev nD) (t : Fin cfg0.N) (i : Fin 1) (k : Fin 64) :
    (iblk m c 4 t : Vec F S1x64 .f32) (ix2 i k) = (V m c main_v2 : Vec F S1x64 .f32) (ix2 i k) := by
  have hi := index_bias1 t
  unfold iblk
  rw [View.read_apply]
  show V m c main_v2 _ = _
  refine congrArg (V m c main_v2) (funext fun a => Fin.ext ?_)
  match a with
  | ⟨0, _⟩ => show win0_4.index t 0 * 1 + 1 * i.val = i.val; rw [hi.1]; omega
  | ⟨1, _⟩ => show win0_4.index t 1 * 64 + 1 * k.val = k.val; rw [hi.2]; omega

theorem index_weights2 (t : Fin cfg0.N) : win0_5.index t 0 = 0 ∧ win0_5.index t 1 = 0 :=
  (by decide +kernel : ∀ t : Fin 4, win0_5.index t 0 = 0 ∧ win0_5.index t 1 = 0) t

theorem block_weights2 (c : Dev nD) (t : Fin cfg0.N) (i : Fin 64) (k : Fin 64) :
    (iblk m c 5 t : Vec F S64x64 .f32) (ix2 i k) = (V m c main_arg5 : Vec F S64x64 .f32) (ix2 i k) := by
  have hi := index_weights2 t
  unfold iblk
  rw [View.read_apply]
  show V m c main_arg5 _ = _
  refine congrArg (V m c main_arg5) (funext fun a => Fin.ext ?_)
  match a with
  | ⟨0, _⟩ => show win0_5.index t 0 * 64 + 1 * i.val = i.val; rw [hi.1]; omega
  | ⟨1, _⟩ => show win0_5.index t 1 * 64 + 1 * k.val = k.val; rw [hi.2]; omega

theorem index_bias2 (t : Fin cfg0.N) : win0_6.index t 0 = 0 ∧ win0_6.index t 1 = 0 :=
  (by decide +kernel : ∀ t : Fin 4, win0_6.index t 0 = 0 ∧ win0_6.index t 1 = 0) t

theorem block_bias2 (c : Dev nD) (t : Fin cfg0.N) (i : Fin 1) (k : Fin 64) :
    (iblk m c 6 t : Vec F S1x64 .f32) (ix2 i k) = (V m c main_v3 : Vec F S1x64 .f32) (ix2 i k) := by
  have hi := index_bias2 t
  unfold iblk
  rw [View.read_apply]
  show V m c main_v3 _ = _
  refine congrArg (V m c main_v3) (funext fun a => Fin.ext ?_)
  match a with
  | ⟨0, _⟩ => show win0_6.index t 0 * 1 + 1 * i.val = i.val; rw [hi.1]; omega
  | ⟨1, _⟩ => show win0_6.index t 1 * 64 + 1 * k.val = k.val; rw [hi.2]; omega

theorem index_weights3 (t : Fin cfg0.N) : win0_7.index t 0 = 0 ∧ win0_7.index t 1 = 0 :=
  (by decide +kernel : ∀ t : Fin 4, win0_7.index t 0 = 0 ∧ win0_7.index t 1 = 0) t

theorem block_weights3 (c : Dev nD) (t : Fin cfg0.N) (i : Fin 1) (k : Fin 64) :
    (iblk m c 7 t : Vec F S1x64 .f32) (ix2 i k) = (V m c main_v5 : Vec F S1x64 .f32) (ix2 i k) := by
  have hi := index_weights3 t
  unfold iblk
  rw [View.read_apply]
  show V m c main_v5 _ = _
  refine congrArg (V m c main_v5) (funext fun a => Fin.ext ?_)
  match a with
  | ⟨0, _⟩ => show win0_7.index t 0 * 1 + 1 * i.val = i.val; rw [hi.1]; omega
  | ⟨1, _⟩ => show win0_7.index t 1 * 64 + 1 * k.val = k.val; rw [hi.2]; omega

theorem index_bias3 (t : Fin cfg0.N) : win0_8.index t 0 = 0 ∧ win0_8.index t 1 = 0 :=
  (by decide +kernel : ∀ t : Fin 4, win0_8.index t 0 = 0 ∧ win0_8.index t 1 = 0) t

theorem block_bias3 (c : Dev nD) (t : Fin cfg0.N) (i : Fin 1) (k : Fin 1) :
    (iblk m c 8 t : Vec F S1x1 .f32) (ix2 i k) = (V m c main_v4 : Vec F S1x1 .f32) (ix2 i k) := by
  have hi := index_bias3 t
  unfold iblk
  rw [View.read_apply]
  show V m c main_v4 _ = _
  refine congrArg (V m c main_v4) (funext fun a => Fin.ext ?_)
  match a with
  | ⟨0, _⟩ => show win0_8.index t 0 * 1 + 1 * i.val = i.val; rw [hi.1]; omega
  | ⟨1, _⟩ => show win0_8.index t 1 * 1 + 1 * k.val = k.val; rw [hi.2]; omega

variable (m : (ℓ : Loc nD τ sig) → Buf (Elt Ideal) ℓ)

/-- The refined scores of all thirty-two rows, from the arguments, the way the plain program computes them. -/
abbrev allScores (c : Dev nD) : FVec Ideal S32x512 .f32 :=
  refScores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- A grid step's refined scores are its eight rows of them. -/
theorem stepScores_at (c : Dev nD) (t : Fin cfg0.N) (r : Fin 8) (l : Fin 512) :
    stepScores m c t (ix2 r l) = allScores m c (ix2 (stepRow t r) l) := by
  unfold stepScores allScores
  refine (scores_at _ _ _ _ _ _ _ _ _ r l).trans (Eq.trans ?_ (refScores_at _ _ _ _ _ _ _ _ _ (stepRow t r) l).symm)
  have h0 : ∀ k, (iblk m c 0 t : Vec Ideal S1x8x128 .f32) (ix3 0 r k) = (m ((c : Thread nD τ).loc main_arg0) : Vec Ideal S32x128 .f32) (ix2 (stepRow t r) k) := fun k => by
    rw [block_queries, V_queries]
    exact grouped_at _ _ _ r k _ rfl
  have h1 : ∀ k, (iblk m c 1 t : Vec Ideal S8x512x128 .f32) (ix3 r l k) = (m ((c : Thread nD τ).loc main_arg1) : Vec Ideal S32x512x128 .f32) (ix3 (stepRow t r) l k) := fun k => by
    rw [block_documents, V_main_arg1]
  have h2 : (iblk m c 2 t : Vec Ideal S1x8x512 .f32) (ix3 0 r l) = (m ((c : Thread nD τ).loc main_arg2) : Vec Ideal S32x512 .f32) (ix2 (stepRow t r) l) := by
    rw [block_given, V_given]
    exact grouped_at _ _ _ r l _ rfl
  have h3 : ∀ i k, (iblk m c 3 t : Vec Ideal S257x64 .f32) (ix2 i k) = (m ((c : Thread nD τ).loc main_arg3) : Vec Ideal S257x64 .f32) (ix2 i k) := fun i k => by
    rw [block_weights1, V_main_arg3]
  have h4 : ∀ k, (iblk m c 4 t : Vec Ideal S1x64 .f32) (ix2 0 k) = (m ((c : Thread nD τ).loc main_arg4) : Vec Ideal S64 .f32) (Idealize.ShloMosaic.ix1 k) := fun k => by
    rw [block_bias1, V_bias1]
    exact asRow_at _ _ k
  have h5 : ∀ i k, (iblk m c 5 t : Vec Ideal S64x64 .f32) (ix2 i k) = (m ((c : Thread nD τ).loc main_arg5) : Vec Ideal S64x64 .f32) (ix2 i k) := fun i k => by
    rw [block_weights2, V_main_arg5]
  have h6 : ∀ k, (iblk m c 6 t : Vec Ideal S1x64 .f32) (ix2 0 k) = (m ((c : Thread nD τ).loc main_arg6) : Vec Ideal S64 .f32) (Idealize.ShloMosaic.ix1 k) := fun k => by
    rw [block_bias2, V_bias2]
    exact asRow_at _ _ k
  have h7 : ∀ k, (iblk m c 7 t : Vec Ideal S1x64 .f32) (ix2 0 k) = (m ((c : Thread nD τ).loc main_arg7) : Vec Ideal S64x1 .f32) (ix2 k 0) := fun k => by
    rw [block_weights3, V_weights3]
    exact turned_at _ _ k
  have h8 : (iblk m c 8 t : Vec Ideal S1x1 .f32) (ix2 0 0) = (m ((c : Thread nD τ).loc main_arg8) : Vec Ideal S1 .f32) (Idealize.ShloMosaic.ix1 0) := by
    rw [block_bias3, V_bias3]
    exact asRow_at _ _ 0
  rw [funext h0, funext h1, h2, funext fun i => funext fun k => h3 i k, funext h4, funext fun i => funext fun k => h5 i k, funext h6, funext h7, h8]

end Cert.SoftSort

end
-- ==== Proof.Assembly.lean ====
/-
  The kernel's results: entry (8 t + r, l) of each is entry (r, l) of what grid step `t` leaves, and grid step `t` sees rows
  `8 t` to `8 t + 7` of the refined scores.
-/
module

public import proofs.«01_k».proof.Proof.Blocks

@[expose] public section

noncomputable section

namespace Cert.SoftSort

open Cert.KernelIdeal Cert.KernelIdeal.Gen
open Idealize.ShloMosaic Idealize.ShloMosaic.TcCoe Idealize.ShloMosaic.Tactic
open Idealize.ShloMosaic.StableHlo
open Idealize.SL.Sem
open Idealize.ShloMosaic.ValueIdx hiding ix1 ix2 ix3 eq_ix1 eq_ix2 eq_ix3

variable {F : FTy → Type} [FloatOps F]
variable (m : (ℓ : Loc nD τ sig) → Buf (Elt F) ℓ) (ρ : Dev nD → PrngReg)

/-- Four groups of eight rows, group `t` made by `f` from the refined scores of grid step `t`. -/
def groups (f : FVec F S8x512 .f32 → FVec F S1x8x512 .f32) (c : Dev nD) : Vec F S4x8x512 .f32 := fun i =>
  f (stepScores m c (i 0 : Fin 4)) (ix3 0 (i 1) (i 2))

theorem index_sorted (t : Fin cfg0.N) : win0_9.index t 0 = t.val ∧ win0_9.index t 1 = 0 ∧ win0_9.index t 2 = 0 :=
  (by decide +kernel : ∀ t : Fin 4, win0_9.index t 0 = t.val ∧ win0_9.index t 1 = 0 ∧ win0_9.index t 2 = 0) t

theorem index_ranks (t : Fin cfg0.N) : win0_10.index t 0 = t.val ∧ win0_10.index t 1 = 0 ∧ win0_10.index t 2 = 0 :=
  (by decide +kernel : ∀ t : Fin 4, win0_10.index t 0 = t.val ∧ win0_10.index t 1 = 0 ∧ win0_10.index t 2 = 0) t

/-- Where entry `j` of step `t`'s block lies in the four groups. -/
theorem groups_at (f : FVec F S8x512 .f32 → FVec F S1x8x512 .f32) (c : Dev nD) (t : Fin cfg0.N) (j : S1x8x512.Idx) (i : S4x8x512.Idx)
    (h0 : (i 0).val = t.val) (h1 : (i 1).val = (j 1).val) (h2 : (i 2).val = (j 2).val) : groups m f c i = f (stepScores m c t) j := by
  unfold groups
  have e0 : (i 0 : Fin 4) = t := Fin.ext h0
  have e : (ix3 0 (i 1) (i 2) : S1x8x512.Idx) = j := funext fun a => Fin.ext (by
    match a with
    | ⟨0, _⟩ => show 0 = (j 0).val; have : (j 0).val < 1 := (j 0).isLt; omega
    | ⟨1, _⟩ => exact h1
    | ⟨2, _⟩ => exact h2)
  exact congrArg₂ (fun t j => f (stepScores m c t) j) e0 e

theorem flushed_sorted (c : Dev nD) (t : Fin cfg0.N) :
    (dats m 0 c).flushed 9 t = ((cfg0.win 9).blk t).view.read (Elt F) (groups m sorted c) := by
  have hi := index_sorted t
  show (cfg0.win 9).cut (grid0.coords t) ((dats m 0 c).after 9 t) = _
  rw [after_9]
  funext j
  rw [View.read_apply]
  refine (groups_at m sorted c t j _ ?_ ?_ ?_).symm
  · show win0_9.index t 0 * 1 + 1 * (j 0).val = t.val
    have : (j 0).val < 1 := (j 0).isLt
    rw [hi.1]; omega
  · show win0_9.index t 1 * 8 + 1 * (j 1).val = (j 1).val
    rw [hi.2.1]; omega
  · show win0_9.index t 2 * 512 + 1 * (j 2).val = (j 2).val
    rw [hi.2.2]; omega

theorem flushed_ranks (c : Dev nD) (t : Fin cfg0.N) :
    (dats m 0 c).flushed 10 t = ((cfg0.win 10).blk t).view.read (Elt F) (groups m ranks c) := by
  have hi := index_ranks t
  show (cfg0.win 10).cut (grid0.coords t) ((dats m 0 c).after 10 t) = _
  rw [after_10]
  funext j
  rw [View.read_apply]
  refine (groups_at m ranks c t j _ ?_ ?_ ?_).symm
  · show win0_10.index t 0 * 1 + 1 * (j 0).val = t.val
    have : (j 0).val < 1 := (j 0).isLt
    rw [hi.1]; omega
  · show win0_10.index t 1 * 8 + 1 * (j 1).val = (j 1).val
    rw [hi.2.1]; omega
  · show win0_10.index t 2 * 512 + 1 * (j 2).val = (j 2).val
    rw [hi.2.2]; omega

/-- The region leaves the four groups of sorted rows. -/
theorem array_sorted (c : Dev nD) : (dats m 0 c).arrAt 9 cfg0.N = groups m sorted c :=
  (dats m 0 c).arrAt_eq_of_cover 9 (groups m sorted c) (fun t _ => flushed_sorted m c t) fun i =>
    ⟨(i 0 : Fin 4), flush0_9 _, by
      have hi := index_sorted (i 0 : Fin 4)
      show i ∈ ((View.whole main_v6_0).slice (win0_9.rect (i 0 : Fin 4))).set
      rw [View.set_slice_whole, Rect.mem_set_unit]
      have h1 : (i 1 : Nat) < 8 := (i 1).isLt
      have h2 : (i 2 : Nat) < 512 := (i 2).isLt
      intro a
      match a with
      | ⟨0, _⟩ => show win0_9.index (i 0 : Fin 4) 0 * 1 ≤ (i 0 : Nat) ∧ (i 0 : Nat) < win0_9.index (i 0 : Fin 4) 0 * 1 + 1; rw [hi.1]; omega
      | ⟨1, _⟩ => show win0_9.index (i 0 : Fin 4) 1 * 8 ≤ (i 1 : Nat) ∧ (i 1 : Nat) < win0_9.index (i 0 : Fin 4) 1 * 8 + 8; rw [hi.2.1]; omega
      | ⟨2, _⟩ => show win0_9.index (i 0 : Fin 4) 2 * 512 ≤ (i 2 : Nat) ∧ (i 2 : Nat) < win0_9.index (i 0 : Fin 4) 2 * 512 + 512; rw [hi.2.2]; omega⟩

/-- The region leaves the four groups of rows of ranks. -/
theorem array_ranks (c : Dev nD) : (dats m 0 c).arrAt 10 cfg0.N = groups m ranks c :=
  (dats m 0 c).arrAt_eq_of_cover 10 (groups m ranks c) (fun t _ => flushed_ranks m c t) fun i =>
    ⟨(i 0 : Fin 4), flush0_10 _, by
      have hi := index_ranks (i 0 : Fin 4)
      show i ∈ ((View.whole main_v6_1).slice (win0_10.rect (i 0 : Fin 4))).set
      rw [View.set_slice_whole, Rect.mem_set_unit]
      have h1 : (i 1 : Nat) < 8 := (i 1).isLt
      have h2 : (i 2 : Nat) < 512 := (i 2).isLt
      intro a
      match a with
      | ⟨0, _⟩ => show win0_10.index (i 0 : Fin 4) 0 * 1 ≤ (i 0 : Nat) ∧ (i 0 : Nat) < win0_10.index (i 0 : Fin 4) 0 * 1 + 1; rw [hi.1]; omega
      | ⟨1, _⟩ => show win0_10.index (i 0 : Fin 4) 1 * 8 ≤ (i 1 : Nat) ∧ (i 1 : Nat) < win0_10.index (i 0 : Fin 4) 1 * 8 + 8; rw [hi.2.1]; omega
      | ⟨2, _⟩ => show win0_10.index (i 0 : Fin 4) 2 * 512 ≤ (i 2 : Nat) ∧ (i 2 : Nat) < win0_10.index (i 0 : Fin 4) 2 * 512 + 512; rw [hi.2.2]; omega⟩

/-- The first result: the four groups laid out as thirty-two rows. -/
theorem tail_sorted (c : Dev nD) : Pipeline.afterTail₀ cfgs (dats m) 0 (V0 m) [hostOps1] c main_v7
    = shapeCast S32x512 (groups m sorted c) shapeCasts_S4x8x512_S32x512 := by
  unfold Pipeline.afterTail₀
  simp only [hostOps1, List.flatten_cons, List.flatten_nil, List.append_nil, List.cons_append, List.nil_append]
  after_results
  refine congrArg (fun x => shapeCast S32x512 x shapeCasts_S4x8x512_S32x512) ?_
  exact (Pipeline.withArrays_arr spec0 (by decide) c (V0 m c) _ 9).trans (array_sorted m c)

/-- The second result likewise. -/
theorem tail_ranks (c : Dev nD) : Pipeline.afterTail₀ cfgs (dats m) 0 (V0 m) [hostOps1] c main_v8
    = shapeCast S32x512 (groups m ranks c) shapeCasts_S4x8x512_S32x512 := by
  unfold Pipeline.afterTail₀
  simp only [hostOps1, List.flatten_cons, List.flatten_nil, List.append_nil, List.cons_append, List.nil_append]
  after_results
  refine congrArg (fun x => shapeCast S32x512 x shapeCasts_S4x8x512_S32x512) ?_
  exact (Pipeline.withArrays_arr spec0 (by decide) c (V0 m c) _ 10).trans (array_ranks m c)

end Cert.SoftSort

end
-- ==== Proof.Finite.lean ====
/-
  The precondition read: every entry of every argument is a real number, so every refined score is one.
-/
module

public import proofs.«01_k».proof.Defs
public import proofs.«01_k».proof.Proof.Blocks

@[expose] public section

noncomputable section

namespace Cert.SoftSort

open Cert.KernelIdeal
open Idealize.ShloMosaic Idealize.ShloMosaic.TcCoe Idealize.SL.Sem
open Idealize.ShloMosaic.ValueIdx hiding ix1 ix2 ix3 eq_ix1 eq_ix2 eq_ix3

/-- The shape relations the precondition states. -/
theorem preFacts : Cert.Pre_finite_arguments.Facts where
  bcast_S_S32x128 := by decide
  bcast_S_S32x512x128 := by decide
  bcast_S_S32x512 := by decide
  bcast_S_S257x64 := by decide
  bcast_S_S64 := by decide
  bcast_S_S64x64 := by decide
  bcast_S_S64x1 := by decide
  bcast_S_S1 := by decide

theorem infinity_bits : Ideal.ofBits .f32 0x7F800000#32 = (⊤ : EReal) := by
  simp [Ideal.ofBits, Ideal.ieee]

/-- An absolute value below infinity is a real number's. -/
theorem real_of_abs_lt {x : EReal} (h : max x (-x) < ⊤) : IsReal x := by
  induction x using EReal.rec with
  | bot => simp at h
  | top => simp at h
  | coe r => exact ⟨r, rfl⟩

/-- An array whose absolute values all compare below infinity holds real numbers. -/
theorem real_of_ones {s : Shape} (x : FVec Ideal s .f32) (h : (⟨0, ![]⟩ : Shape).BroadcastsInDim s (![] : Fin 0 → Fin s.rank))
    (e : cmpf .olt (Host.absf x) (broadcastInDim s ![] h (constant (F := Ideal) ⟨0, ![]⟩ .f32 0x7F800000#32)) = fun _ => 1#1) (i : s.Idx) : IsReal (x i) := by
  have hi := congrFun e i
  change Ideal.cmp .olt (max (x i) (-(x i))) (Ideal.ofBits .f32 0x7F800000#32) = 1#1 at hi
  rw [infinity_bits] at hi
  refine real_of_abs_lt ?_
  by_contra hn
  unfold Ideal.cmp at hi
  simp [hn] at hi

attribute [local instance] preFacts

variable (m : (ℓ : Loc nD τ sig) → Buf (Elt Ideal) ℓ)

/-- Under the precondition every refined score is a real number. -/
theorem allScores_real (h : Pre_KernelIdeal_finite_arguments m) (c : Dev nD) (r : Fin 32) (l : Fin 512) : IsReal (allScores m c (ix2 r l)) := by
  obtain ⟨h0, h1, h2, h3, h4, h5, h6, h7, h8⟩ := h c
  unfold allScores
  rw [refScores_at]
  exact score_real _ _ _ _ _ _ _
    (features_real _ _ _ (fun _ => real_of_ones _ _ h0 _) (fun _ => real_of_ones _ _ h1 _) (real_of_ones _ _ h2 _))
    (fun _ _ => real_of_ones _ _ h3 _) (fun _ => real_of_ones _ _ h4 _) (fun _ _ => real_of_ones _ _ h5 _)
    (fun _ => real_of_ones _ _ h6 _) (fun _ => real_of_ones _ _ h7 _) (real_of_ones _ _ h8 _)

end Cert.SoftSort

end
-- ==== Proof.Equal.lean ====
/-
  The two programs agree: both results, on every row, for real arguments.
-/
module

public import proofs.«01_k».proof.Proof.Assembly
public import proofs.«01_k».proof.Proof.Finite

@[expose] public section

noncomputable section

namespace Cert.SoftSort

open Cert.KernelIdeal Cert.KernelIdeal.Gen
open Idealize.ShloMosaic Idealize.ShloMosaic.TcCoe Idealize.SL.Sem
open Idealize.ShloMosaic.ValueIdx hiding ix1 ix2 ix3 eq_ix1 eq_ix2 eq_ix3
open Idealize.ShloMosaic.Pipeline (Dat)

attribute [local instance] preFacts

/-- Row `R` is row `r` of some grid step. -/
theorem row_split (R : Fin 32) : ∃ (t : Fin cfg0.N) (r : Fin 8), stepRow t r = R := by
  have hR := R.isLt
  refine ⟨(⟨R.val / 8, by omega⟩ : Fin 4), ⟨R.val % 8, by omega⟩, Fin.ext ?_⟩
  show 8 * (R.val / 8) + R.val % 8 = R.val
  omega

variable (m : (ℓ : Loc nD τ sig) → Buf (Elt Ideal) ℓ) (ρ : Dev nD → PrngReg)

/-- The first result is the plain program's soft sort. -/
theorem sorted_eq (h : Pre_KernelIdeal_finite_arguments m) (c : Dev nD) :
    shapeCast S32x512 (groups m sorted c) shapeCasts_S4x8x512_S32x512 = refSorted (allScores m c) := by
  choose X hX using allScores_real m h c
  funext i
  obtain ⟨R, l, rfl⟩ : ∃ (R : Fin 32) (l : Fin 512), i = ix2 R l := ⟨i 0, i 1, Idealize.ShloMosaic.eq_ix2 i⟩
  obtain ⟨t, r, rfl⟩ := row_split R
  obtain ⟨τ, h1, h2⟩ := refSorted_at (allScores m c) X hX (stepRow t r)
  refine (ungrouped_at _ _ (t : Fin 4) r l _ rfl).trans ?_
  rw [h2]
  exact sorted_at (stepScores m c t) (fun r l => X (stepRow t r) l) (fun r l => (stepScores_at m c t r l).trans (hX _ _)) r τ h1 l

/-- The second result is the plain program's soft rank. -/
theorem ranks_eq (h : Pre_KernelIdeal_finite_arguments m) (c : Dev nD) :
    shapeCast S32x512 (groups m ranks c) shapeCasts_S4x8x512_S32x512 = refRanks (allScores m c) := by
  choose X hX using allScores_real m h c
  funext i
  obtain ⟨R, l, rfl⟩ : ∃ (R : Fin 32) (l : Fin 512), i = ix2 R l := ⟨i 0, i 1, Idealize.ShloMosaic.eq_ix2 i⟩
  obtain ⟨t, r, rfl⟩ := row_split R
  obtain ⟨τ, h1, h2⟩ := refRanks_at (allScores m c) X hX (stepRow t r)
  obtain ⟨σ, h3, h4⟩ := ranks_at (stepScores m c t) (fun r l => X (stepRow t r) l) (fun r l => (stepScores_at m c t r l).trans (hX _ _)) r
  refine (ungrouped_at _ _ (t : Fin 4) r l _ rfl).trans ?_
  exact congrFun (ranks_unique (fun i => X (stepRow t r) i * (-10)) cd σ τ h3 h1 cd_antitone
    (fun p => ranks (stepScores m c t) (ix3 0 r p)) (fun p => refRanks (allScores m c) (ix2 (stepRow t r) p)) h4 h2) l

/-- Both programs end with the same two results, and keep their arguments. -/
theorem agree : Cert.algebraic_KernelIdeal_ReferenceIdeal_pre_finite_arguments := by
  intro m g m' g' hpre hargs
  refine ⟨fun c => refSorted (allScores m c), fun c => refRanks (allScores m c), ?_, ?_⟩
  · refine (θ_run defs _ _).mono (fun r h c => ⟨?_, ?_, h.2.1 c⟩) (θ_run_and (run_main m g) (frame m g))
    · exact ((h.1.1 c).2 main_v7 (Pipeline.mem_restRefs_of main_v7 (by decide) (by decide))).trans ((tail_sorted m c).trans (sorted_eq m hpre c))
    · exact ((h.1.1 c).2 main_v8 (Pipeline.mem_restRefs_of main_v8 (by decide) (by decide))).trans ((tail_ranks m c).trans (ranks_eq m hpre c))
  · refine (θ_run _ _ _).mono (fun r h c => ?_) (refRun m' g')
    obtain ⟨e0, e1, e2, e3, e4, e5, e6, e7, e8⟩ := hargs c
    have e : refScores (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = allScores m c := by
      rw [e0, e1, e2, e3, e4, e5, e6, e7, e8]
    exact ⟨(h c).1.trans (congrArg refSorted e), (h c).2.1.trans (congrArg refRanks e), (h c).2.2⟩

end Cert.SoftSort

end
-- ==== Proof.lean ====
/-
  The certificate's claims, put together from the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.FrameK
public import proofs.«01_k».proof.Proof.FrameR
public import proofs.«01_k».proof.Proof.Equal
public import Idealize.ShloMosaic.Adequacy
public import Idealize.ShloMosaic.Init
public import proofs.«01_k».proof.Proof.Gen.ReferenceIdeal.Run

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.SoftSort.preFacts,
  Cert.SoftSort.kernel_frame, fun m ρ _ => Cert.SoftSort.frame m ρ, fun m ρ _ => Cert.SoftSort.frame m ρ,
  Cert.SoftSort.reference_frame, fun m ρ _ => Cert.SoftSort.reference_frame m ρ True.intro, trivial, Cert.SoftSort.agree⟩

end Cert.Proof

end
